-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S8x128 : Shape := ⟨2, ![8, 128]⟩
abbrev S32x8x128 : Shape := ⟨3, ![32, 8, 128]⟩
abbrev S32 : Shape := ⟨1, ![32]⟩
abbrev S128x2048 : Shape := ⟨2, ![128, 2048]⟩
abbrev S1x128x2048 : Shape := ⟨3, ![1, 128, 2048]⟩
abbrev S1 : Shape := ⟨1, ![1]⟩
abbrev S1x1x1 : Shape := ⟨3, ![1, 1, 1]⟩
abbrev S_ : Shape := ⟨0, ![]⟩
abbrev S1x8x128 : Shape := ⟨3, ![1, 8, 128]⟩
abbrev S1x32x8x128 : Shape := ⟨4, ![1, 32, 8, 128]⟩
abbrev S1x1x1x1 : Shape := ⟨4, ![1, 1, 1, 1]⟩
abbrev S128x64 : Shape := ⟨2, ![128, 64]⟩
abbrev S1x128x64 : Shape := ⟨3, ![1, 128, 64]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S4096x64, .f32⟩
  | .local _ .vmem, ⟨0, _⟩ => ⟨S128x4096, .f32⟩
  | .local _ .vmem, ⟨1, _⟩ => ⟨S4096x2048, .f32⟩
  | .local _ .vmem, ⟨2, _⟩ => ⟨S4096x64, .f32⟩
  | .local _ .vmem, ⟨3, _⟩ => ⟨S32x128x64, .fp8e4m3⟩
  | .local _ .vmem, ⟨4, _⟩ => ⟨S32x128x64, .fp8e4m3⟩
  | .local _ .vmem, ⟨5, _⟩ => ⟨S8x128, .f32⟩
  | .local _ .vmem, ⟨6, _⟩ => ⟨S32x8x128, .f32⟩
  | _, _ => ⟨S128x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 : Nat :=
  let c0_i32_9 : BitVec 32 := 0#32
  let c0_i32 : BitVec 32 := 0#32
  let c1_i32_8 : BitVec 32 := 1#32
  let v19 : BitVec 32 := Scalar.muli c0_i32 c1_i32_8
  let v20 : BitVec 32 := Scalar.addi c0_i32_9 v19
  v20.toNat
def k0_dev2 : Nat :=
  let c0_i32_13 : BitVec 32 := 0#32
  let c1_i32_11 : BitVec 32 := 1#32
  let c1_i32_12 : BitVec 32 := 1#32
  let v21 : BitVec 32 := Scalar.muli c1_i32_11 c1_i32_12
  let v22 : BitVec 32 := Scalar.addi c0_i32_13 v21
  v22.toNat
def k0_dev3 : Nat :=
  let c0_i32_16 : BitVec 32 := 0#32
  let c2_i32 : BitVec 32 := 2#32
  let c1_i32_15 : BitVec 32 := 1#32
  let v23 : BitVec 32 := Scalar.muli c2_i32 c1_i32_15
  let v24 : BitVec 32 := Scalar.addi c0_i32_16 v23
  v24.toNat
def k0_dev4 : Nat :=
  let c0_i32_19 : BitVec 32 := 0#32
  let c3_i32 : BitVec 32 := 3#32
  let c1_i32_18 : BitVec 32 := 1#32
  let v25 : BitVec 32 := Scalar.muli c3_i32 c1_i32_18
  let v26 : BitVec 32 := Scalar.addi c0_i32_19 v25
  v26.toNat
def k0_dev5 : Nat :=
  let c0_i32_22 : BitVec 32 := 0#32
  let c4_i32 : BitVec 32 := 4#32
  let c1_i32_21 : BitVec 32 := 1#32
  let v27 : BitVec 32 := Scalar.muli c4_i32 c1_i32_21
  let v28 : BitVec 32 := Scalar.addi c0_i32_22 v27
  v28.toNat
def k0_dev6 : Nat :=
  let c0_i32_25 : BitVec 32 := 0#32
  let c5_i32 : BitVec 32 := 5#32
  let c1_i32_24 : BitVec 32 := 1#32
  let v29 : BitVec 32 := Scalar.muli c5_i32 c1_i32_24
  let v30 : BitVec 32 := Scalar.addi c0_i32_25 v29
  v30.toNat
def k0_dev7 : Nat :=
  let c0_i32_28 : BitVec 32 := 0#32
  let c6_i32 : BitVec 32 := 6#32
  let c1_i32_27 : BitVec 32 := 1#32
  let v31 : BitVec 32 := Scalar.muli c6_i32 c1_i32_27
  let v32 : BitVec 32 := Scalar.addi c0_i32_28 v31
  v32.toNat
def k0_dev8 : Nat :=
  let c0_i32_31 : BitVec 32 := 0#32
  let c7_i32 : BitVec 32 := 7#32
  let c1_i32_30 : BitVec 32 := 1#32
  let v33 : BitVec 32 := Scalar.muli c7_i32 c1_i32_30
  let v34 : BitVec 32 := Scalar.addi c0_i32_31 v33
  v34.toNat
def k0_dev9 : Nat :=
  let c0_i32_34 : BitVec 32 := 0#32
  let c8_i32 : BitVec 32 := 8#32
  let c1_i32_33 : BitVec 32 := 1#32
  let v35 : BitVec 32 := Scalar.muli c8_i32 c1_i32_33
  let v36 : BitVec 32 := Scalar.addi c0_i32_34 v35
  v36.toNat
def k0_dev10 : Nat :=
  let c0_i32_37 : BitVec 32 := 0#32
  let c9_i32 : BitVec 32 := 9#32
  let c1_i32_36 : BitVec 32 := 1#32
  let v37 : BitVec 32 := Scalar.muli c9_i32 c1_i32_36
  let v38 : BitVec 32 := Scalar.addi c0_i32_37 v37
  v38.toNat
def k0_dev11 : Nat :=
  let c0_i32_40 : BitVec 32 := 0#32
  let c10_i32 : BitVec 32 := 10#32
  let c1_i32_39 : BitVec 32 := 1#32
  let v39 : BitVec 32 := Scalar.muli c10_i32 c1_i32_39
  let v40 : BitVec 32 := Scalar.addi c0_i32_40 v39
  v40.toNat
def k0_dev12 : Nat :=
  let c0_i32_43 : BitVec 32 := 0#32
  let c11_i32 : BitVec 32 := 11#32
  let c1_i32_42 : BitVec 32 := 1#32
  let v41 : BitVec 32 := Scalar.muli c11_i32 c1_i32_42
  let v42 : BitVec 32 := Scalar.addi c0_i32_43 v41
  v42.toNat
def k0_dev13 : Nat :=
  let c0_i32_46 : BitVec 32 := 0#32
  let c12_i32 : BitVec 32 := 12#32
  let c1_i32_45 : BitVec 32 := 1#32
  let v43 : BitVec 32 := Scalar.muli c12_i32 c1_i32_45
  let v44 : BitVec 32 := Scalar.addi c0_i32_46 v43
  v44.toNat
def k0_dev14 : Nat :=
  let c0_i32_49 : BitVec 32 := 0#32
  let c13_i32 : BitVec 32 := 13#32
  let c1_i32_48 : BitVec 32 := 1#32
  let v45 : BitVec 32 := Scalar.muli c13_i32 c1_i32_48
  let v46 : BitVec 32 := Scalar.addi c0_i32_49 v45
  v46.toNat
def k0_dev15 : Nat :=
  let c0_i32_52 : BitVec 32 := 0#32
  let c14_i32 : BitVec 32 := 14#32
  let c1_i32_51 : BitVec 32 := 1#32
  let v47 : BitVec 32 := Scalar.muli c14_i32 c1_i32_51
  let v48 : BitVec 32 := Scalar.addi c0_i32_52 v47
  v48.toNat
def k0_dev16 : Nat :=
  let c0_i32_55 : BitVec 32 := 0#32
  let c15_i32 : BitVec 32 := 15#32
  let c1_i32_54 : BitVec 32 := 1#32
  let v49 : BitVec 32 := Scalar.muli c15_i32 c1_i32_54
  let v50 : BitVec 32 := Scalar.addi c0_i32_55 v49
  v50.toNat
def k0_dev17 : Nat :=
  let c0_i32_58 : BitVec 32 := 0#32
  let c16_i32 : BitVec 32 := 16#32
  let c1_i32_57 : BitVec 32 := 1#32
  let v51 : BitVec 32 := Scalar.muli c16_i32 c1_i32_57
  let v52 : BitVec 32 := Scalar.addi c0_i32_58 v51
  v52.toNat
def k0_dev18 : Nat :=
  let c0_i32_61 : BitVec 32 := 0#32
  let c17_i32 : BitVec 32 := 17#32
  let c1_i32_60 : BitVec 32 := 1#32
  let v53 : BitVec 32 := Scalar.muli c17_i32 c1_i32_60
  let v54 : BitVec 32 := Scalar.addi c0_i32_61 v53
  v54.toNat
def k0_dev19 : Nat :=
  let c0_i32_64 : BitVec 32 := 0#32
  let c18_i32 : BitVec 32 := 18#32
  let c1_i32_63 : BitVec 32 := 1#32
  let v55 : BitVec 32 := Scalar.muli c18_i32 c1_i32_63
  let v56 : BitVec 32 := Scalar.addi c0_i32_64 v55
  v56.toNat
def k0_dev20 : Nat :=
  let c0_i32_67 : BitVec 32 := 0#32
  let c19_i32 : BitVec 32 := 19#32
  let c1_i32_66 : BitVec 32 := 1#32
  let v57 : BitVec 32 := Scalar.muli c19_i32 c1_i32_66
  let v58 : BitVec 32 := Scalar.addi c0_i32_67 v57
  v58.toNat
def k0_dev21 : Nat :=
  let c0_i32_70 : BitVec 32 := 0#32
  let c20_i32 : BitVec 32 := 20#32
  let c1_i32_69 : BitVec 32 := 1#32
  let v59 : BitVec 32 := Scalar.muli c20_i32 c1_i32_69
  let v60 : BitVec 32 := Scalar.addi c0_i32_70 v59
  v60.toNat
def k0_dev22 : Nat :=
  let c0_i32_73 : BitVec 32 := 0#32
  let c21_i32 : BitVec 32 := 21#32
  let c1_i32_72 : BitVec 32 := 1#32
  let v61 : BitVec 32 := Scalar.muli c21_i32 c1_i32_72
  let v62 : BitVec 32 := Scalar.addi c0_i32_73 v61
  v62.toNat
def k0_dev23 : Nat :=
  let c0_i32_76 : BitVec 32 := 0#32
  let c22_i32 : BitVec 32 := 22#32
  let c1_i32_75 : BitVec 32 := 1#32
  let v63 : BitVec 32 := Scalar.muli c22_i32 c1_i32_75
  let v64 : BitVec 32 := Scalar.addi c0_i32_76 v63
  v64.toNat
def k0_dev24 : Nat :=
  let c0_i32_79 : BitVec 32 := 0#32
  let c23_i32 : BitVec 32 := 23#32
  let c1_i32_78 : BitVec 32 := 1#32
  let v65 : BitVec 32 := Scalar.muli c23_i32 c1_i32_78
  let v66 : BitVec 32 := Scalar.addi c0_i32_79 v65
  v66.toNat
def k0_dev25 : Nat :=
  let c0_i32_82 : BitVec 32 := 0#32
  let c24_i32 : BitVec 32 := 24#32
  let c1_i32_81 : BitVec 32 := 1#32
  let v67 : BitVec 32 := Scalar.muli c24_i32 c1_i32_81
  let v68 : BitVec 32 := Scalar.addi c0_i32_82 v67
  v68.toNat
def k0_dev26 : Nat :=
  let c0_i32_85 : BitVec 32 := 0#32
  let c25_i32 : BitVec 32 := 25#32
  let c1_i32_84 : BitVec 32 := 1#32
  let v69 : BitVec 32 := Scalar.muli c25_i32 c1_i32_84
  let v70 : BitVec 32 := Scalar.addi c0_i32_85 v69
  v70.toNat
def k0_dev27 : Nat :=
  let c0_i32_88 : BitVec 32 := 0#32
  let c26_i32 : BitVec 32 := 26#32
  let c1_i32_87 : BitVec 32 := 1#32
  let v71 : BitVec 32 := Scalar.muli c26_i32 c1_i32_87
  let v72 : BitVec 32 := Scalar.addi c0_i32_88 v71
  v72.toNat
def k0_dev28 : Nat :=
  let c0_i32_91 : BitVec 32 := 0#32
  let c27_i32 : BitVec 32 := 27#32
  let c1_i32_90 : BitVec 32 := 1#32
  let v73 : BitVec 32 := Scalar.muli c27_i32 c1_i32_90
  let v74 : BitVec 32 := Scalar.addi c0_i32_91 v73
  v74.toNat
def k0_dev29 : Nat :=
  let c0_i32_94 : BitVec 32 := 0#32
  let c28_i32 : BitVec 32 := 28#32
  let c1_i32_93 : BitVec 32 := 1#32
  let v75 : BitVec 32 := Scalar.muli c28_i32 c1_i32_93
  let v76 : BitVec 32 := Scalar.addi c0_i32_94 v75
  v76.toNat
def k0_dev30 : Nat :=
  let c0_i32_97 : BitVec 32 := 0#32
  let c29_i32 : BitVec 32 := 29#32
  let c1_i32_96 : BitVec 32 := 1#32
  let v77 : BitVec 32 := Scalar.muli c29_i32 c1_i32_96
  let v78 : BitVec 32 := Scalar.addi c0_i32_97 v77
  v78.toNat
def k0_dev31 : Nat :=
  let c0_i32_100 : BitVec 32 := 0#32
  let c30_i32 : BitVec 32 := 30#32
  let c1_i32_99 : BitVec 32 := 1#32
  let v79 : BitVec 32 := Scalar.muli c30_i32 c1_i32_99
  let v80 : BitVec 32 := Scalar.addi c0_i32_100 v79
  v80.toNat
def k0_dev32 : Nat :=
  let c0_i32_103 : BitVec 32 := 0#32
  let c31_i32 : BitVec 32 := 31#32
  let c1_i32_102 : BitVec 32 := 1#32
  let v81 : BitVec 32 := Scalar.muli c31_i32 c1_i32_102
  let v82 : BitVec 32 := Scalar.addi c0_i32_103 v81
  v82.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_109 : BitVec 32 := 0#32
  let c0_i32_110 : BitVec 32 := 0#32
  ![v2.toNat, 0, 0]
def k0_dev33 : Nat :=
  let c0_i32_108 : BitVec 32 := 0#32
  let c0_i32_106 : BitVec 32 := 0#32
  let c1_i32_107 : BitVec 32 := 1#32
  let v83 : BitVec 32 := Scalar.muli c0_i32_106 c1_i32_107
  let v84 : BitVec 32 := Scalar.addi c0_i32_108 v83
  v84.toNat
def k0_dev34 : Nat :=
  let c0_i32_114 : BitVec 32 := 0#32
  let c1_i32_112 : BitVec 32 := 1#32
  let c1_i32_113 : BitVec 32 := 1#32
  let v91 : BitVec 32 := Scalar.muli c1_i32_112 c1_i32_113
  let v92 : BitVec 32 := Scalar.addi c0_i32_114 v91
  v92.toNat
def k0_dev35 : Nat :=
  let c0_i32_120 : BitVec 32 := 0#32
  let c2_i32_118 : BitVec 32 := 2#32
  let c1_i32_119 : BitVec 32 := 1#32
  let v99 : BitVec 32 := Scalar.muli c2_i32_118 c1_i32_119
  let v100 : BitVec 32 := Scalar.addi c0_i32_120 v99
  v100.toNat
def k0_dev36 : Nat :=
  let c0_i32_126 : BitVec 32 := 0#32
  let c3_i32_124 : BitVec 32 := 3#32
  let c1_i32_125 : BitVec 32 := 1#32
  let v107 : BitVec 32 := Scalar.muli c3_i32_124 c1_i32_125
  let v108 : BitVec 32 := Scalar.addi c0_i32_126 v107
  v108.toNat
def k0_dev37 : Nat :=
  let c0_i32_132 : BitVec 32 := 0#32
  let c4_i32_130 : BitVec 32 := 4#32
  let c1_i32_131 : BitVec 32 := 1#32
  let v115 : BitVec 32 := Scalar.muli c4_i32_130 c1_i32_131
  let v116 : BitVec 32 := Scalar.addi c0_i32_132 v115
  v116.toNat
def k0_dev38 : Nat :=
  let c0_i32_138 : BitVec 32 := 0#32
  let c5_i32_136 : BitVec 32 := 5#32
  let c1_i32_137 : BitVec 32 := 1#32
  let v123 : BitVec 32 := Scalar.muli c5_i32_136 c1_i32_137
  let v124 : BitVec 32 := Scalar.addi c0_i32_138 v123
  v124.toNat
def k0_dev39 : Nat :=
  let c0_i32_144 : BitVec 32 := 0#32
  let c6_i32_142 : BitVec 32 := 6#32
  let c1_i32_143 : BitVec 32 := 1#32
  let v131 : BitVec 32 := Scalar.muli c6_i32_142 c1_i32_143
  let v132 : BitVec 32 := Scalar.addi c0_i32_144 v131
  v132.toNat
def k0_dev40 : Nat :=
  let c0_i32_150 : BitVec 32 := 0#32
  let c7_i32_148 : BitVec 32 := 7#32
  let c1_i32_149 : BitVec 32 := 1#32
  let v139 : BitVec 32 := Scalar.muli c7_i32_148 c1_i32_149
  let v140 : BitVec 32 := Scalar.addi c0_i32_150 v139
  v140.toNat
def k0_dev41 : Nat :=
  let c0_i32_156 : BitVec 32 := 0#32
  let c8_i32_154 : BitVec 32 := 8#32
  let c1_i32_155 : BitVec 32 := 1#32
  let v147 : BitVec 32 := Scalar.muli c8_i32_154 c1_i32_155
  let v148 : BitVec 32 := Scalar.addi c0_i32_156 v147
  v148.toNat
def k0_dev42 : Nat :=
  let c0_i32_162 : BitVec 32 := 0#32
  let c9_i32_160 : BitVec 32 := 9#32
  let c1_i32_161 : BitVec 32 := 1#32
  let v155 : BitVec 32 := Scalar.muli c9_i32_160 c1_i32_161
  let v156 : BitVec 32 := Scalar.addi c0_i32_162 v155
  v156.toNat
def k0_dev43 : Nat :=
  let c0_i32_168 : BitVec 32 := 0#32
  let c10_i32_166 : BitVec 32 := 10#32
  let c1_i32_167 : BitVec 32 := 1#32
  let v163 : BitVec 32 := Scalar.muli c10_i32_166 c1_i32_167
  let v164 : BitVec 32 := Scalar.addi c0_i32_168 v163
  v164.toNat
def k0_dev44 : Nat :=
  let c0_i32_174 : BitVec 32 := 0#32
  let c11_i32_172 : BitVec 32 := 11#32
  let c1_i32_173 : BitVec 32 := 1#32
  let v171 : BitVec 32 := Scalar.muli c11_i32_172 c1_i32_173
  let v172 : BitVec 32 := Scalar.addi c0_i32_174 v171
  v172.toNat
def k0_dev45 : Nat :=
  let c0_i32_180 : BitVec 32 := 0#32
  let c12_i32_178 : BitVec 32 := 12#32
  let c1_i32_179 : BitVec 32 := 1#32
  let v179 : BitVec 32 := Scalar.muli c12_i32_178 c1_i32_179
  let v180 : BitVec 32 := Scalar.addi c0_i32_180 v179
  v180.toNat
def k0_dev46 : Nat :=
  let c0_i32_186 : BitVec 32 := 0#32
  let c13_i32_184 : BitVec 32 := 13#32
  let c1_i32_185 : BitVec 32 := 1#32
  let v187 : BitVec 32 := Scalar.muli c13_i32_184 c1_i32_185
  let v188 : BitVec 32 := Scalar.addi c0_i32_186 v187
  v188.toNat
def k0_dev47 : Nat :=
  let c0_i32_192 : BitVec 32 := 0#32
  let c14_i32_190 : BitVec 32 := 14#32
  let c1_i32_191 : BitVec 32 := 1#32
  let v195 : BitVec 32 := Scalar.muli c14_i32_190 c1_i32_191
  let v196 : BitVec 32 := Scalar.addi c0_i32_192 v195
  v196.toNat
def k0_dev48 : Nat :=
  let c0_i32_198 : BitVec 32 := 0#32
  let c15_i32_196 : BitVec 32 := 15#32
  let c1_i32_197 : BitVec 32 := 1#32
  let v203 : BitVec 32 := Scalar.muli c15_i32_196 c1_i32_197
  let v204 : BitVec 32 := Scalar.addi c0_i32_198 v203
  v204.toNat
def k0_dev49 : Nat :=
  let c0_i32_204 : BitVec 32 := 0#32
  let c16_i32_202 : BitVec 32 := 16#32
  let c1_i32_203 : BitVec 32 := 1#32
  let v211 : BitVec 32 := Scalar.muli c16_i32_202 c1_i32_203
  let v212 : BitVec 32 := Scalar.addi c0_i32_204 v211
  v212.toNat
def k0_dev50 : Nat :=
  let c0_i32_210 : BitVec 32 := 0#32
  let c17_i32_208 : BitVec 32 := 17#32
  let c1_i32_209 : BitVec 32 := 1#32
  let v219 : BitVec 32 := Scalar.muli c17_i32_208 c1_i32_209
  let v220 : BitVec 32 := Scalar.addi c0_i32_210 v219
  v220.toNat
def k0_dev51 : Nat :=
  let c0_i32_216 : BitVec 32 := 0#32
  let c18_i32_214 : BitVec 32 := 18#32
  let c1_i32_215 : BitVec 32 := 1#32
  let v227 : BitVec 32 := Scalar.muli c18_i32_214 c1_i32_215
  let v228 : BitVec 32 := Scalar.addi c0_i32_216 v227
  v228.toNat
def k0_dev52 : Nat :=
  let c0_i32_222 : BitVec 32 := 0#32
  let c19_i32_220 : BitVec 32 := 19#32
  let c1_i32_221 : BitVec 32 := 1#32
  let v235 : BitVec 32 := Scalar.muli c19_i32_220 c1_i32_221
  let v236 : BitVec 32 := Scalar.addi c0_i32_222 v235
  v236.toNat
def k0_dev53 : Nat :=
  let c0_i32_228 : BitVec 32 := 0#32
  let c20_i32_226 : BitVec 32 := 20#32
  let c1_i32_227 : BitVec 32 := 1#32
  let v243 : BitVec 32 := Scalar.muli c20_i32_226 c1_i32_227
  let v244 : BitVec 32 := Scalar.addi c0_i32_228 v243
  v244.toNat
def k0_dev54 : Nat :=
  let c0_i32_234 : BitVec 32 := 0#32
  let c21_i32_232 : BitVec 32 := 21#32
  let c1_i32_233 : BitVec 32 := 1#32
  let v251 : BitVec 32 := Scalar.muli c21_i32_232 c1_i32_233
  let v252 : BitVec 32 := Scalar.addi c0_i32_234 v251
  v252.toNat
def k0_dev55 : Nat :=
  let c0_i32_240 : BitVec 32 := 0#32
  let c22_i32_238 : BitVec 32 := 22#32
  let c1_i32_239 : BitVec 32 := 1#32
  let v259 : BitVec 32 := Scalar.muli c22_i32_238 c1_i32_239
  let v260 : BitVec 32 := Scalar.addi c0_i32_240 v259
  v260.toNat
def k0_dev56 : Nat :=
  let c0_i32_246 : BitVec 32 := 0#32
  let c23_i32_244 : BitVec 32 := 23#32
  let c1_i32_245 : BitVec 32 := 1#32
  let v267 : BitVec 32 := Scalar.muli c23_i32_244 c1_i32_245
  let v268 : BitVec 32 := Scalar.addi c0_i32_246 v267
  v268.toNat
def k0_dev57 : Nat :=
  let c0_i32_252 : BitVec 32 := 0#32
  let c24_i32_250 : BitVec 32 := 24#32
  let c1_i32_251 : BitVec 32 := 1#32
  let v275 : BitVec 32 := Scalar.muli c24_i32_250 c1_i32_251
  let v276 : BitVec 32 := Scalar.addi c0_i32_252 v275
  v276.toNat
def k0_dev58 : Nat :=
  let c0_i32_258 : BitVec 32 := 0#32
  let c25_i32_256 : BitVec 32 := 25#32
  let c1_i32_257 : BitVec 32 := 1#32
  let v283 : BitVec 32 := Scalar.muli c25_i32_256 c1_i32_257
  let v284 : BitVec 32 := Scalar.addi c0_i32_258 v283
  v284.toNat
def k0_dev59 : Nat :=
  let c0_i32_264 : BitVec 32 := 0#32
  let c26_i32_262 : BitVec 32 := 26#32
  let c1_i32_263 : BitVec 32 := 1#32
  let v291 : BitVec 32 := Scalar.muli c26_i32_262 c1_i32_263
  let v292 : BitVec 32 := Scalar.addi c0_i32_264 v291
  v292.toNat
def k0_dev60 : Nat :=
  let c0_i32_270 : BitVec 32 := 0#32
  let c27_i32_268 : BitVec 32 := 27#32
  let c1_i32_269 : BitVec 32 := 1#32
  let v299 : BitVec 32 := Scalar.muli c27_i32_268 c1_i32_269
  let v300 : BitVec 32 := Scalar.addi c0_i32_270 v299
  v300.toNat
def k0_dev61 : Nat :=
  let c0_i32_276 : BitVec 32 := 0#32
  let c28_i32_274 : BitVec 32 := 28#32
  let c1_i32_275 : BitVec 32 := 1#32
  let v307 : BitVec 32 := Scalar.muli c28_i32_274 c1_i32_275
  let v308 : BitVec 32 := Scalar.addi c0_i32_276 v307
  v308.toNat
def k0_dev62 : Nat :=
  let c0_i32_282 : BitVec 32 := 0#32
  let c29_i32_280 : BitVec 32 := 29#32
  let c1_i32_281 : BitVec 32 := 1#32
  let v315 : BitVec 32 := Scalar.muli c29_i32_280 c1_i32_281
  let v316 : BitVec 32 := Scalar.addi c0_i32_282 v315
  v316.toNat
def k0_dev63 : Nat :=
  let c0_i32_288 : BitVec 32 := 0#32
  let c30_i32_286 : BitVec 32 := 30#32
  let c1_i32_287 : BitVec 32 := 1#32
  let v323 : BitVec 32 := Scalar.muli c30_i32_286 c1_i32_287
  let v324 : BitVec 32 := Scalar.addi c0_i32_288 v323
  v324.toNat
def k0_dev64 : Nat :=
  let c0_i32_294 : BitVec 32 := 0#32
  let c31_i32_292 : BitVec 32 := 31#32
  let c1_i32_293 : BitVec 32 := 1#32
  let v331 : BitVec 32 := Scalar.muli c31_i32_292 c1_i32_293
  let v332 : BitVec 32 := Scalar.addi c0_i32_294 v331
  v332.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_856 : BitVec 32 := 0#32
  let c0_i32_857 : BitVec 32 := 0#32
  ![v2.toNat, 0, 0]
def k0_dev65 : Nat :=
  let c0_i32_855 : BitVec 32 := 0#32
  let c0_i32_853 : BitVec 32 := 0#32
  let c1_i32_854 : BitVec 32 := 1#32
  let v801 : BitVec 32 := Scalar.muli c0_i32_853 c1_i32_854
  let v802 : BitVec 32 := Scalar.addi c0_i32_855 v801
  v802.toNat
def k0_dev66 : Nat :=
  let c0_i32_864 : BitVec 32 := 0#32
  let c1_i32_862 : BitVec 32 := 1#32
  let c1_i32_863 : BitVec 32 := 1#32
  let v811 : BitVec 32 := Scalar.muli c1_i32_862 c1_i32_863
  let v812 : BitVec 32 := Scalar.addi c0_i32_864 v811
  v812.toNat
def k0_dev67 : Nat :=
  let c0_i32_873 : BitVec 32 := 0#32
  let c2_i32_871 : BitVec 32 := 2#32
  let c1_i32_872 : BitVec 32 := 1#32
  let v821 : BitVec 32 := Scalar.muli c2_i32_871 c1_i32_872
  let v822 : BitVec 32 := Scalar.addi c0_i32_873 v821
  v822.toNat
def k0_dev68 : Nat :=
  let c0_i32_882 : BitVec 32 := 0#32
  let c3_i32_880 : BitVec 32 := 3#32
  let c1_i32_881 : BitVec 32 := 1#32
  let v831 : BitVec 32 := Scalar.muli c3_i32_880 c1_i32_881
  let v832 : BitVec 32 := Scalar.addi c0_i32_882 v831
  v832.toNat
def k0_dev69 : Nat :=
  let c0_i32_891 : BitVec 32 := 0#32
  let c4_i32_889 : BitVec 32 := 4#32
  let c1_i32_890 : BitVec 32 := 1#32
  let v841 : BitVec 32 := Scalar.muli c4_i32_889 c1_i32_890
  let v842 : BitVec 32 := Scalar.addi c0_i32_891 v841
  v842.toNat
def k0_dev70 : Nat :=
  let c0_i32_900 : BitVec 32 := 0#32
  let c5_i32_898 : BitVec 32 := 5#32
  let c1_i32_899 : BitVec 32 := 1#32
  let v851 : BitVec 32 := Scalar.muli c5_i32_898 c1_i32_899
  let v852 : BitVec 32 := Scalar.addi c0_i32_900 v851
  v852.toNat
def k0_dev71 : Nat :=
  let c0_i32_909 : BitVec 32 := 0#32
  let c6_i32_907 : BitVec 32 := 6#32
  let c1_i32_908 : BitVec 32 := 1#32
  let v861 : BitVec 32 := Scalar.muli c6_i32_907 c1_i32_908
  let v862 : BitVec 32 := Scalar.addi c0_i32_909 v861
  v862.toNat
def k0_dev72 : Nat :=
  let c0_i32_918 : BitVec 32 := 0#32
  let c7_i32_916 : BitVec 32 := 7#32
  let c1_i32_917 : BitVec 32 := 1#32
  let v871 : BitVec 32 := Scalar.muli c7_i32_916 c1_i32_917
  let v872 : BitVec 32 := Scalar.addi c0_i32_918 v871
  v872.toNat
def k0_dev73 : Nat :=
  let c0_i32_927 : BitVec 32 := 0#32
  let c8_i32_925 : BitVec 32 := 8#32
  let c1_i32_926 : BitVec 32 := 1#32
  let v881 : BitVec 32 := Scalar.muli c8_i32_925 c1_i32_926
  let v882 : BitVec 32 := Scalar.addi c0_i32_927 v881
  v882.toNat
def k0_dev74 : Nat :=
  let c0_i32_936 : BitVec 32 := 0#32
  let c9_i32_934 : BitVec 32 := 9#32
  let c1_i32_935 : BitVec 32 := 1#32
  let v891 : BitVec 32 := Scalar.muli c9_i32_934 c1_i32_935
  let v892 : BitVec 32 := Scalar.addi c0_i32_936 v891
  v892.toNat
def k0_dev75 : Nat :=
  let c0_i32_945 : BitVec 32 := 0#32
  let c10_i32_943 : BitVec 32 := 10#32
  let c1_i32_944 : BitVec 32 := 1#32
  let v901 : BitVec 32 := Scalar.muli c10_i32_943 c1_i32_944
  let v902 : BitVec 32 := Scalar.addi c0_i32_945 v901
  v902.toNat
def k0_dev76 : Nat :=
  let c0_i32_954 : BitVec 32 := 0#32
  let c11_i32_952 : BitVec 32 := 11#32
  let c1_i32_953 : BitVec 32 := 1#32
  let v911 : BitVec 32 := Scalar.muli c11_i32_952 c1_i32_953
  let v912 : BitVec 32 := Scalar.addi c0_i32_954 v911
  v912.toNat
def k0_dev77 : Nat :=
  let c0_i32_963 : BitVec 32 := 0#32
  let c12_i32_961 : BitVec 32 := 12#32
  let c1_i32_962 : BitVec 32 := 1#32
  let v921 : BitVec 32 := Scalar.muli c12_i32_961 c1_i32_962
  let v922 : BitVec 32 := Scalar.addi c0_i32_963 v921
  v922.toNat
def k0_dev78 : Nat :=
  let c0_i32_972 : BitVec 32 := 0#32
  let c13_i32_970 : BitVec 32 := 13#32
  let c1_i32_971 : BitVec 32 := 1#32
  let v931 : BitVec 32 := Scalar.muli c13_i32_970 c1_i32_971
  let v932 : BitVec 32 := Scalar.addi c0_i32_972 v931
  v932.toNat
def k0_dev79 : Nat :=
  let c0_i32_981 : BitVec 32 := 0#32
  let c14_i32_979 : BitVec 32 := 14#32
  let c1_i32_980 : BitVec 32 := 1#32
  let v941 : BitVec 32 := Scalar.muli c14_i32_979 c1_i32_980
  let v942 : BitVec 32 := Scalar.addi c0_i32_981 v941
  v942.toNat
def k0_dev80 : Nat :=
  let c0_i32_990 : BitVec 32 := 0#32
  let c15_i32_988 : BitVec 32 := 15#32
  let c1_i32_989 : BitVec 32 := 1#32
  let v951 : BitVec 32 := Scalar.muli c15_i32_988 c1_i32_989
  let v952 : BitVec 32 := Scalar.addi c0_i32_990 v951
  v952.toNat
def k0_dev81 : Nat :=
  let c0_i32_999 : BitVec 32 := 0#32
  let c16_i32_997 : BitVec 32 := 16#32
  let c1_i32_998 : BitVec 32 := 1#32
  let v961 : BitVec 32 := Scalar.muli c16_i32_997 c1_i32_998
  let v962 : BitVec 32 := Scalar.addi c0_i32_999 v961
  v962.toNat
def k0_dev82 : Nat :=
  let c0_i32_1008 : BitVec 32 := 0#32
  let c17_i32_1006 : BitVec 32 := 17#32
  let c1_i32_1007 : BitVec 32 := 1#32
  let v971 : BitVec 32 := Scalar.muli c17_i32_1006 c1_i32_1007
  let v972 : BitVec 32 := Scalar.addi c0_i32_1008 v971
  v972.toNat
def k0_dev83 : Nat :=
  let c0_i32_1017 : BitVec 32 := 0#32
  let c18_i32_1015 : BitVec 32 := 18#32
  let c1_i32_1016 : BitVec 32 := 1#32
  let v981 : BitVec 32 := Scalar.muli c18_i32_1015 c1_i32_1016
  let v982 : BitVec 32 := Scalar.addi c0_i32_1017 v981
  v982.toNat
def k0_dev84 : Nat :=
  let c0_i32_1026 : BitVec 32 := 0#32
  let c19_i32_1024 : BitVec 32 := 19#32
  let c1_i32_1025 : BitVec 32 := 1#32
  let v991 : BitVec 32 := Scalar.muli c19_i32_1024 c1_i32_1025
  let v992 : BitVec 32 := Scalar.addi c0_i32_1026 v991
  v992.toNat
def k0_dev85 : Nat :=
  let c0_i32_1035 : BitVec 32 := 0#32
  let c20_i32_1033 : BitVec 32 := 20#32
  let c1_i32_1034 : BitVec 32 := 1#32
  let v1001 : BitVec 32 := Scalar.muli c20_i32_1033 c1_i32_1034
  let v1002 : BitVec 32 := Scalar.addi c0_i32_1035 v1001
  v1002.toNat
def k0_dev86 : Nat :=
  let c0_i32_1044 : BitVec 32 := 0#32
  let c21_i32_1042 : BitVec 32 := 21#32
  let c1_i32_1043 : BitVec 32 := 1#32
  let v1011 : BitVec 32 := Scalar.muli c21_i32_1042 c1_i32_1043
  let v1012 : BitVec 32 := Scalar.addi c0_i32_1044 v1011
  v1012.toNat
def k0_dev87 : Nat :=
  let c0_i32_1053 : BitVec 32 := 0#32
  let c22_i32_1051 : BitVec 32 := 22#32
  let c1_i32_1052 : BitVec 32 := 1#32
  let v1021 : BitVec 32 := Scalar.muli c22_i32_1051 c1_i32_1052
  let v1022 : BitVec 32 := Scalar.addi c0_i32_1053 v1021
  v1022.toNat
def k0_dev88 : Nat :=
  let c0_i32_1062 : BitVec 32 := 0#32
  let c23_i32_1060 : BitVec 32 := 23#32
  let c1_i32_1061 : BitVec 32 := 1#32
  let v1031 : BitVec 32 := Scalar.muli c23_i32_1060 c1_i32_1061
  let v1032 : BitVec 32 := Scalar.addi c0_i32_1062 v1031
  v1032.toNat
def k0_dev89 : Nat :=
  let c0_i32_1071 : BitVec 32 := 0#32
  let c24_i32_1069 : BitVec 32 := 24#32
  let c1_i32_1070 : BitVec 32 := 1#32
  let v1041 : BitVec 32 := Scalar.muli c24_i32_1069 c1_i32_1070
  let v1042 : BitVec 32 := Scalar.addi c0_i32_1071 v1041
  v1042.toNat
def k0_dev90 : Nat :=
  let c0_i32_1080 : BitVec 32 := 0#32
  let c25_i32_1078 : BitVec 32 := 25#32
  let c1_i32_1079 : BitVec 32 := 1#32
  let v1051 : BitVec 32 := Scalar.muli c25_i32_1078 c1_i32_1079
  let v1052 : BitVec 32 := Scalar.addi c0_i32_1080 v1051
  v1052.toNat
def k0_dev91 : Nat :=
  let c0_i32_1089 : BitVec 32 := 0#32
  let c26_i32_1087 : BitVec 32 := 26#32
  let c1_i32_1088 : BitVec 32 := 1#32
  let v1061 : BitVec 32 := Scalar.muli c26_i32_1087 c1_i32_1088
  let v1062 : BitVec 32 := Scalar.addi c0_i32_1089 v1061
  v1062.toNat
def k0_dev92 : Nat :=
  let c0_i32_1098 : BitVec 32 := 0#32
  let c27_i32_1096 : BitVec 32 := 27#32
  let c1_i32_1097 : BitVec 32 := 1#32
  let v1071 : BitVec 32 := Scalar.muli c27_i32_1096 c1_i32_1097
  let v1072 : BitVec 32 := Scalar.addi c0_i32_1098 v1071
  v1072.toNat
def k0_dev93 : Nat :=
  let c0_i32_1107 : BitVec 32 := 0#32
  let c28_i32_1105 : BitVec 32 := 28#32
  let c1_i32_1106 : BitVec 32 := 1#32
  let v1081 : BitVec 32 := Scalar.muli c28_i32_1105 c1_i32_1106
  let v1082 : BitVec 32 := Scalar.addi c0_i32_1107 v1081
  v1082.toNat
def k0_dev94 : Nat :=
  let c0_i32_1116 : BitVec 32 := 0#32
  let c29_i32_1114 : BitVec 32 := 29#32
  let c1_i32_1115 : BitVec 32 := 1#32
  let v1091 : BitVec 32 := Scalar.muli c29_i32_1114 c1_i32_1115
  let v1092 : BitVec 32 := Scalar.addi c0_i32_1116 v1091
  v1092.toNat
def k0_dev95 : Nat :=
  let c0_i32_1125 : BitVec 32 := 0#32
  let c30_i32_1123 : BitVec 32 := 30#32
  let c1_i32_1124 : BitVec 32 := 1#32
  let v1101 : BitVec 32 := Scalar.muli c30_i32_1123 c1_i32_1124
  let v1102 : BitVec 32 := Scalar.addi c0_i32_1125 v1101
  v1102.toNat
def k0_dev96 : Nat :=
  let c0_i32_1134 : BitVec 32 := 0#32
  let c31_i32_1132 : BitVec 32 := 31#32
  let c1_i32_1133 : BitVec 32 := 1#32
  let v1111 : BitVec 32 := Scalar.muli c31_i32_1132 c1_i32_1133
  let v1112 : BitVec 32 := Scalar.addi c0_i32_1134 v1111
  v1112.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Rolled.lean ====
module

public import proofs.«01_k».proof.Proof.Gen.KernelIdeal.Skeleton
public import proofs.«01_k».proof.Proof.Gen.KernelIdeal.Launch
public import proofs.«01_k».proof.Proof.Gen.KernelIdeal.Points

/-! # The kernel's body as loops

The kernel is written with loops over its 32 peers, which the printed program unrolls. Here the loops are put back: each
group of 32 operations is one operation at a peer, run over the list of the devices. `body_eq_rolled` says that the
printed body is the rolled one. -/

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The buffers and semaphores -/

/-- The staged block of `x`. -/
abbrev xM : Memref sig .tc .vmem S128x4096 .f32 := Memref.whole cc0_stg0_0
/-- The staged `w`. -/
abbrev wM : Memref sig .tc .vmem S4096x2048 .f32 := Memref.whole cc0_stg1_0
/-- The staged result. -/
abbrev oM : Memref sig .tc .vmem S4096x64 .f32 := Memref.whole cc0_stg2_0
/-- The quantised slices to send. -/
abbrev qsM : Memref sig .tc .vmem S32x128x64 .fp8e4m3 := Memref.whole cc0_scratch0
/-- The received quantised slices. -/
abbrev qrM : Memref sig .tc .vmem S32x128x64 .fp8e4m3 := Memref.whole cc0_scratch1
/-- The local maximum to send. -/
abbrev asM : Memref sig .tc .vmem S8x128 .f32 := Memref.whole cc0_scratch2
/-- The received maxima. -/
abbrev arM : Memref sig .tc .vmem S32x8x128 .f32 := Memref.whole cc0_scratch3

/-- The runtime's barrier semaphore. -/
abbrev barS : Sem sig := (SemArray.scalar (sig.barrier 0 rfl) : Sems sig S_).sem

/-- A slot of an array of 32 slots lies inside it. -/
theorem inbS (d : Dev nD) : ∀ a, (![d.val] : Fin 1 → Nat) a + S1.size a ≤ S32.size a := by revert d; decide
/-- A slot of the received maxima lies inside them. -/
theorem inbA (d : Dev nD) : ∀ a, (![d.val, 0, 0] : Fin 3 → Nat) a + S1x8x128.size a ≤ S32x8x128.size a := by revert d; decide
/-- A slot of the slices lies inside them. -/
theorem inbQ (d : Dev nD) : ∀ a, (![d.val, 0, 0] : Fin 3 → Nat) a + S1x128x64.size a ≤ S32x128x64.size a := by revert d; decide

/-- The semaphore of a slot. -/
abbrev semAt (A : DmaSems sig S32) (d : Dev nD) : DmaSem sig := ((A.slice (Rect.unit (s := S32) ![d.val] S1.size (inbS d))).squeeze S_ squeezes_S1_S_).sem
/-- Slot `d` of the received maxima. -/
abbrev arAt (d : Dev nD) : Memref sig .tc .vmem S8x128 .f32 :=
  (arM.slice (Rect.unit (s := S32x8x128) ![d.val, 0, 0] S1x8x128.size (inbA d)) (fun _ => rfl)).squeeze S8x128 squeezes_S1x8x128_S8x128
/-- The places of slot `d` of the slices. -/
abbrev rectQ (d : Dev nD) : Rect S32x128x64 := Rect.unit (s := S32x128x64) ![d.val, 0, 0] S1x128x64.size (inbQ d)
/-- Slot `d` of the slices to send. -/
abbrev qsAt (d : Dev nD) : Memref sig .tc .vmem S128x64 .fp8e4m3 := (qsM.slice (rectQ d) (fun _ => rfl)).squeeze S128x64 squeezes_S1x128x64_S128x64
/-- Slot `d` of the received slices. -/
abbrev qrAt (d : Dev nD) : Memref sig .tc .vmem S128x64 .fp8e4m3 := (qrM.slice (rectQ d) (fun _ => rfl)).squeeze S128x64 squeezes_S1x128x64_S128x64

/-- The semaphore slot that device `c` computes is its own. -/
theorem off1_eq (c : Dev nD) : k0_off1 c = ![c.val] := by revert c; decide +kernel
/-- The slot of the maxima that device `c` computes is its own. -/
theorem off2_eq (c : Dev nD) : k0_off2 c = ![c.val, 0, 0] := by revert c; decide +kernel
/-- The slot of the slices that device `c` computes is its own. -/
theorem off3_eq (c : Dev nD) : k0_off3 c = ![c.val, 0, 0] := by revert c; decide +kernel
/-- A slot of the slices is made of whole words. -/
theorem wordsQ (d : Dev nD) : (rectQ d).WholeWords (EltTy.packing .fp8e4m3) := by revert d; decide +kernel
/-- The rows of a slot are packed whole. -/
theorem packedQ (d : Dev nD) : (rectQ d).PackedRows (EltTy.packing .fp8e4m3) := by revert d; decide +kernel

/-- Columns `64 d` to `64 d + 63` lie inside the block. -/
theorem slicesQ (d : Dev nD) : S128x2048.Slices ![0, 64 * d.val] S128x64 := by revert d; decide +kernel

/-- Columns `64 d` to `64 d + 63` of the quantised block, as a slot of the slices to send. -/
def payQ (yq : FVec F S128x2048 .fp8e4m3) (d : Dev nD) : FVec F S1x128x64 .fp8e4m3 :=
  shapeCast S1x128x64 (extractStridedSlice S128x64 ![0, 64 * d.val] yq (slicesQ d)) shapeCasts_S128x64_S1x128x64

/-! ## The rolled body -/

/-- The programs of the kernel's body. -/
abbrev Body (F : FTy → Type) (α : Type) : Type 1 := Prog (TpuEff nD τ sig (Elt F) Λ₀ .tc) α

/-- `f` at each device of a list, in order. -/
def each (l : List (Dev nD)) (f : Dev nD → Body F PUnit.{1}) : Body F PUnit :=
  match l with
  | [] => pure ⟨⟩
  | d :: l => f d >>= fun _ => each l f

/-- The devices in order. -/
def devs : List (Dev nD) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩, ⟨15, by decide⟩,
   ⟨16, by decide⟩, ⟨17, by decide⟩, ⟨18, by decide⟩, ⟨19, by decide⟩, ⟨20, by decide⟩, ⟨21, by decide⟩, ⟨22, by decide⟩, ⟨23, by decide⟩,
   ⟨24, by decide⟩, ⟨25, by decide⟩, ⟨26, by decide⟩, ⟨27, by decide⟩, ⟨28, by decide⟩, ⟨29, by decide⟩, ⟨30, by decide⟩, ⟨31, by decide⟩]

/-- No device is listed twice. -/
theorem devs_nodup : devs.Nodup := by decide
/-- Every device is listed. -/
theorem mem_devs (d : Dev nD) : d ∈ devs := by revert d; decide

/-- Signal the barrier of device `d`. -/
def sigOp (d : Dev nD) : Body F PUnit.{1} := semSignalWord d barS 1#32

/-- Send the local maximum to device `d`, into slot `c` of the maxima it receives. -/
def sendAOp (c d : Dev nD) : Body F PUnit.{1} :=
  Prog.lift (.enqueueDma asM
    (.remote (Dev.tc d) ((arM.slice (Rect.unit (s := S32x8x128) (k0_off2 c) S1x8x128.size (k0_off2_inb c)) (fun _ => rfl)).squeeze S8x128 squeezes_S1x8x128_S8x128) (.dma (semAt cc0_scratch6 d)))
    (.dma ((cc0_scratch7.slice (Rect.unit (s := S32) (k0_off1 c) S1.size (k0_off1_inb c))).squeeze S_ squeezes_S1_S_).sem)
    (Memref.isWhole_whole _).wordExact ((View.wordExact_bits rfl).reshape _ _) ⟨⟨rfl, Or.inl rfl⟩, trivial⟩)

/-- Wait for the departure of the maximum sent to `d`. -/
def waitASOp (d : Dev nD) : Body F PUnit.{1} :=
  Prog.lift (.waitDma2 (semAt cc0_scratch6 d) asM asM (Memref.isWhole_whole _).wordExact (Memref.isWhole_whole _).wordExact)

/-- Wait for the arrival of device `d`'s maximum. -/
def waitAROp (d : Dev nD) : Body F PUnit.{1} :=
  Prog.lift (.waitDma2 (semAt cc0_scratch7 d) (arAt d) (arAt d) ((View.wordExact_bits rfl).reshape _ _) ((View.wordExact_bits rfl).reshape _ _))

/-- Store the slice for device `d`. -/
def storeQOp (yq : FVec F S128x2048 .fp8e4m3) (d : Dev nD) : Body F PUnit.{1} := do
  let _v : Vec F S1x128x64 .fp8e4m3 ← Prog.lift (.load qsM (rectQ d).toLoadRect (View.loadsAt_vmem h_S1x128x64))
  Prog.lift (.store qsM (rectQ d) (payQ yq d) Finset.univ (View.stores_vmem h_S1x128x64 ((Memref.isWhole_whole _).storeExact_slice rfl _ (packedQ d)) (fun _ => rfl)) (.inl rfl))

/-- Send the slice for device `d`, into slot `c` of the slices it receives. -/
def sendQOp (c d : Dev nD) : Body F PUnit.{1} :=
  Prog.lift (.enqueueDma (qsAt d)
    (.remote (Dev.tc d) ((qrM.slice (Rect.unit (s := S32x128x64) (k0_off3 c) S1x128x64.size (k0_off3_inb c)) (fun _ => rfl)).squeeze S128x64 squeezes_S1x128x64_S128x64) (.dma (semAt cc0_scratch4 d)))
    (.dma ((cc0_scratch5.slice (Rect.unit (s := S32) (k0_off1 c) S1.size (k0_off1_inb c))).squeeze S_ squeezes_S1_S_).sem)
    (((Memref.isWhole_whole _).wordExact_slice rfl _ (wordsQ d)).reshape _ _) (((Memref.isWhole_whole _).wordExact_slice rfl _ (k0_off3_wordsfp8e4m3 c)).reshape _ _) ⟨⟨rfl, Or.inl rfl⟩, trivial⟩)

/-- Wait for the departure of the slice sent to `d`. -/
def waitQSOp (d : Dev nD) : Body F PUnit.{1} :=
  Prog.lift (.waitDma2 (semAt cc0_scratch4 d) (qsAt d) (qsAt d) (((Memref.isWhole_whole _).wordExact_slice rfl _ (wordsQ d)).reshape _ _) (((Memref.isWhole_whole _).wordExact_slice rfl _ (wordsQ d)).reshape _ _))

/-- Wait for the arrival of device `d`'s slice. -/
def waitQROp (d : Dev nD) : Body F PUnit.{1} :=
  Prog.lift (.waitDma2 (semAt cc0_scratch5 d) (qrAt d) (qrAt d) (((Memref.isWhole_whole _).wordExact_slice rfl _ (wordsQ d)).reshape _ _) (((Memref.isWhole_whole _).wordExact_slice rfl _ (wordsQ d)).reshape _ _))

/-- The last stretch: the result from the scale and the received slices. -/
def finOp (sc : F .f32) : Body F PUnit.{1} := do
  let v1569 : Vec F S32x128x64 .fp8e4m3 ← Prog.lift (.load qrM (Rect.unit (s := S32x128x64) ![0, 0, 0] S32x128x64.size inb_S32x128x64_S32x128x64_0_0_0).toLoadRect (View.loadsAt_vmem h_S32x128x64))
  let _v : Vec F S4096x64 .f32 ← Prog.lift (.load oM (Rect.unit (s := S4096x64) ![0, 0] S4096x64.size inb_S4096x64_S4096x64_0_0).toLoadRect (View.loadsAt_vmem h_S4096x64))
  Prog.lift (.store oM (Rect.unit (s := S4096x64) ![0, 0] S4096x64.size inb_S4096x64_S4096x64_0_0) (k0_pay42 sc v1569) Finset.univ (View.stores_vmem_bits_univ h_S4096x64 rfl) (.inl rfl))
  pure ⟨⟩

/-- The exchange of the quantised slices and the result. -/
def tailOp (c : Dev nD) (y : FVec F S128x2048 .f32) : Body F PUnit.{1} := do
  let v659 : Vec F S32x8x128 .f32 ← Prog.lift (.load arM (Rect.unit (s := S32x8x128) ![0, 0, 0] S32x8x128.size inb_S32x8x128_S32x8x128_0_0_0).toLoadRect (View.loadsAt_vmem h_S32x8x128))
  each devs (storeQOp (k0_pay5 y (k0_pay4 v659)))
  each devs (sendQOp c)
  each devs waitQSOp
  each devs waitQROp
  finOp (k0_pay3 v659)

/-- The body with its loops. -/
def rolled : Body F PUnit.{1} := do
  let c : Dev nD ← Prog.lift .deviceId
  let v3 : Vec F S128x4096 .f32 ← Prog.lift (.load xM (Rect.unit (s := S128x4096) ![0, 0] S128x4096.size inb_S128x4096_S128x4096_0_0).toLoadRect (View.loadsAt_vmem h_S128x4096))
  let v5 : Vec F S4096x2048 .f32 ← Prog.lift (.load wM (Rect.unit (s := S4096x2048) ![0, 0] S4096x2048.size inb_S4096x2048_S4096x2048_0_0).toLoadRect (View.loadsAt_vmem h_S4096x2048))
  let _v : Vec F S8x128 .f32 ← Prog.lift (.load asM (Rect.unit (s := S8x128) ![0, 0] S8x128.size inb_S8x128_S8x128_0_0).toLoadRect (View.loadsAt_vmem h_S8x128))
  Prog.lift (.store asM (Rect.unit (s := S8x128) ![0, 0] S8x128.size inb_S8x128_S8x128_0_0) (k0_pay2 v3 v5) Finset.univ (View.stores_vmem_bits_univ h_S8x128 rfl) (.inl rfl))
  each devs sigOp
  semWaitWord barS 32#32
  each devs (sendAOp c)
  each devs waitASOp
  each devs waitAROp
  tailOp c (k0_pay1 v3 v5)

set_option maxRecDepth 65536 in
/-- The printed body is the rolled one. -/
theorem body_eq_rolled : bodyAt0 (F := F) t0_0 = rolled := by
  chain_rfl

end Cert.KernelIdeal.Hand

end
-- ==== Proof.Cells.lean ====
module

public import proofs.«01_k».proof.Proof.Rolled
public import Idealize.ShloMosaic.Lib.Pipeline.Launch
public import Idealize.ShloMosaic.Lib.Pipeline.Kit
public import Idealize.ShloMosaic.Lib.ShareLeaves
public import Idealize.ShloMosaic.Lib.Tactic

/-! # The cells of the exchange and their protocol

A device owns 129 semaphore cells: its barrier, and one cell for each peer in four groups (departures and arrivals of the
maxima, departures and arrivals of the slices). Each cell is used for one round.

* The barrier of device `c` has a duty for each device `d`: the signal of `d` hands `c` the two slots of `d` that `c` writes.
* An arrival cell of `c` for `j` is raised by the transfer of `j`, and hands `c` its slot `j` with what `j` sent.
* A departure cell of `c` for `d` hands back what the transfer to `d` read: a share of the local maximum, a slot of the slices.

The contents of the four buffers are a parameter here (`Bufs`). -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type}

/-! ## The resource algebra -/

/-- The exchange's ghost state: duties are named by the device that pays them. -/
abbrev UB : Type := URounds (GSem nD τ sig) (Dev nD)
/-- With the pipeline's own. -/
abbrev UU : Type := UR sig nD τ × UB

local notation "𝕄" => MT nD τ sig Unit (Elt F) ℕ UU ℕ

/-- Where the pipeline's ghost state sits, and the exchange's. -/
abbrev EP : Emb (UR sig nD τ) (MT nD τ sig Unit (Elt F) ℕ UU ℕ) := embL
/-- Where the ghost state of the exchange sits. -/
abbrev ER : Emb UB (MT nD τ sig Unit (Elt F) ℕ UU ℕ) := embR

/-! ## The cells -/

/-- A transfer cell of a device: its group and its peer. -/
abbrev SK : Type := Fin 4 × Dev nD
/-- The groups: departures of the maxima, their arrivals, departures of the slices, their arrivals. -/
abbrev arrOf : Fin 4 → DmaSems sig S32
  | 0 => cc0_scratch6 | 1 => cc0_scratch7 | 2 => cc0_scratch4 | 3 => cc0_scratch5
/-- The semaphore of a transfer cell. -/
abbrev osem (k : SK) : SemLoc sig := .dma (semAt (arrOf k.1) k.2)
/-- The semaphore of a cell: the barrier or a transfer cell. -/
abbrev csem : Option SK → SemLoc sig
  | none => .reg barS
  | some k => osem k
/-- The cell of a device. -/
abbrev kcell (ck : Dev nD × Option SK) : GSem nD τ sig := ((ck.1 : Thread nD τ), csem ck.2)

set_option backward.proofsInPublic true in
/-- Which cell a semaphore is, if it is one of the exchange. -/
def who : SemLoc sig → Option (Option SK)
  | .reg b => if b = barS then some none else none
  | .dma q => if 3 ≤ q.val ∧ q.val < 131 then
      some (some (⟨((q.val - 3) / 32 + 2) % 4, Nat.mod_lt _ (by decide)⟩, ⟨(q.val - 3) % 32, Nat.mod_lt _ (by decide)⟩)) else none

/-- A transfer cell is found back from its semaphore. -/
theorem who_osem (k : SK) : who (osem k) = some (some k) := by revert k; decide +kernel
/-- The barrier is found back from its semaphore. -/
theorem who_bar : who (.reg barS) = some none := by decide +kernel
/-- A cell is found back from its semaphore. -/
theorem who_csem : ∀ k : Option SK, who (csem k) = some k
  | none => who_bar
  | some k => who_osem k

/-- The credit of one maximum. -/
abbrev NA : ℕ := asM.view.dmaCredit
/-- The credit of one slice. -/
abbrev NQ : ℕ := (qsAt 0).view.dmaCredit
/-- The credit of a maximum is positive. -/
theorem NA_pos : 0 < NA := View.dmaCredit_pos _ (by decide)
/-- The credit of a slice is positive. -/
theorem NQ_pos : 0 < NQ := View.dmaCredit_pos _ (by decide)
/-- Every slot credits the same. -/
theorem credit_ar (d : Dev nD) : (arAt d).view.dmaCredit = NA := rfl
/-- Every slot to send credits the same. -/
theorem credit_qs (d : Dev nD) : (qsAt d).view.dmaCredit = NQ := rfl
/-- Every received slot credits the same. -/
theorem credit_qr (d : Dev nD) : (qrAt d).view.dmaCredit = NQ := rfl

/-- The credit of a transfer cell. -/
def amt : Fin 4 → ℕ
  | 0 => NA | 1 => NA | 2 => NQ | 3 => NQ
/-- It is positive. -/
theorem amt_pos (k : Fin 4) : 0 < amt k := by
  fin_cases k
  · exact NA_pos
  · exact NA_pos
  · exact NQ_pos
  · exact NQ_pos

/-! ## Contents -/

/-- What the four buffers hold on each device once filled: the local maximum, the received maxima, the slices to send, the
received slices. -/
structure Bufs (F : FTy → Type) where
  lmax : Dev nD → (cc0_scratch2 : Ref sig .tc).ty.Contents (Elt F)
  amax : Dev nD → (cc0_scratch3 : Ref sig .tc).ty.Contents (Elt F)
  snd : Dev nD → (cc0_scratch0 : Ref sig .tc).ty.Contents (Elt F)
  rcv : Dev nD → (cc0_scratch1 : Ref sig .tc).ty.Contents (Elt F)

/-- Slot `d` of the received maxima of device `c`. -/
def arPts (c d : Dev nD) (f : (cc0_scratch3 : Ref sig .tc).ty.Contents (Elt F)) : sProp 𝕄 :=
  (arAt d).view.loc (c : Thread nD τ) ↦[(arAt d).view.set]{fullShare} f
/-- Slot `d` of the received slices of device `c`. -/
def qrPts (c d : Dev nD) (f : (cc0_scratch1 : Ref sig .tc).ty.Contents (Elt F)) : sProp 𝕄 :=
  (qrAt d).view.loc (c : Thread nD τ) ↦[(qrAt d).view.set]{fullShare} f
/-- Slot `d` of the slices device `c` sends. -/
def qsPts (c d : Dev nD) (f : (cc0_scratch0 : Ref sig .tc).ty.Contents (Elt F)) : sProp 𝕄 :=
  (qsAt d).view.loc (c : Thread nD τ) ↦[(qsAt d).view.set]{fullShare} f
/-- The share of the local maximum of device `c` that the transfer to `d` reads. -/
def asPts (c d : Dev nD) (f : (cc0_scratch2 : Ref sig .tc).ty.Contents (Elt F)) : sProp 𝕄 :=
  asM.view.loc (c : Thread nD τ) ↦[asM.view.set]{leaf 5 fullShare d} f

/-- A slot of the received maxima can be kept at a cell. -/
instance arPts_storable (c d : Dev nD) (f) : BI.Storable (upEmb : UEmb _ 𝕄) (arPts (F := F) c d f) := by unfold arPts; infer_instance
/-- A slot of the received slices can be kept at a cell. -/
instance qrPts_storable (c d : Dev nD) (f) : BI.Storable (upEmb : UEmb _ 𝕄) (qrPts (F := F) c d f) := by unfold qrPts; infer_instance
/-- A slot of the slices to send can be kept at a cell. -/
instance qsPts_storable (c d : Dev nD) (f) : BI.Storable (upEmb : UEmb _ 𝕄) (qsPts (F := F) c d f) := by unfold qsPts; infer_instance
/-- A share of the local maximum can be kept at a cell. -/
instance asPts_storable (c d : Dev nD) (f) : BI.Storable (upEmb : UEmb _ 𝕄) (asPts (F := F) c d f) := by unfold asPts; infer_instance

/-! ## The schedule -/

/-- What the signal of `d` hands to `c`: the slots of `d` that `c` writes. -/
def barPay (c d : Dev nD) : sProp 𝕄 := iprop((∃ f, arPts (F := F) d c f) ∗ (∃ f, qrPts (F := F) d c f))

/-- What a transfer hands over at a cell. -/
def xferPay (B : Bufs F) (c : Dev nD) : SK → sProp 𝕄
  | (0, d) => asPts c d (B.lmax c)
  | (1, d) => arPts c d (B.amax c)
  | (2, d) => qsPts c d (B.snd c)
  | (3, d) => qrPts c d (B.rcv c)

/-- What a signal hands over can be kept at a cell. -/
instance barPay_storable (c d : Dev nD) : BI.Storable (upEmb : UEmb _ 𝕄) (barPay (F := F) c d) := by unfold barPay; infer_instance
/-- What a transfer hands over can be kept at a cell. -/
instance xferPay_storable (B : Bufs F) (c : Dev nD) (k : SK) : BI.Storable (upEmb : UEmb _ 𝕄) (xferPay B c k) := by
  obtain ⟨k, d⟩ := k
  fin_cases k
  · exact asPts_storable c d _
  · exact arPts_storable c d _
  · exact qsPts_storable c d _
  · exact qrPts_storable c d _

/-- The duties of a cell's one round. -/
def dutiesOf : Option (Option SK) → Finset (Dev nD)
  | some none => Finset.univ
  | some (some _) => {0}
  | none => ∅

/-- The units of a duty of a cell. -/
def amountOf : Option (Option SK) → ℕ
  | some (some k) => amt k.1
  | _ => 1

/-- The payload of a duty of a cell. -/
def payOf (B : Bufs F) (c : Dev nD) : Option (Option SK) → Dev nD → sProp 𝕄
  | some none, d => barPay c d
  | some (some k), _ => xferPay B c k
  | none, _ => iprop(emp)

/-- Every payload can be kept at a cell. -/
instance payOf_storable (B : Bufs F) (c : Dev nD) (k : Option (Option SK)) (d : Dev nD) : BI.Storable (upEmb : UEmb _ 𝕄) (payOf B c k d) := by
  rcases k with _ | _ | k
  · show BI.Storable _ iprop(emp); infer_instance
  · exact barPay_storable c d
  · exact xferPay_storable B c k

/-- The exchange's schedule: one round at every cell. -/
def rd (B : Bufs F) : Rounds.Schedule (GSem nD τ sig) (Dev nD) 𝕄 where
  duties g r := if r = 0 ∧ g.1.2 = .tc then dutiesOf (who g.2) else ∅
  unitless _ := False
  amount g _ _ := amountOf (who g.2)
  payload g _ d := payOf B g.1.1 (who g.2) d
  amount_pos g _ _ _ := by
    rcases who g.2 with _ | _ | k
    · exact Nat.one_pos
    · exact Nat.one_pos
    · exact amt_pos _

/-- So can the payloads of the schedule. -/
instance rd_payload_storable (B : Bufs F) (g : GSem nD τ sig) (r : ℕ) (d : Dev nD) :
    BI.Storable (upEmb : UEmb _ 𝕄) ((rd B).payload g r d) := payOf_storable B _ _ d

section Sched
variable (B : Bufs F) (c : Dev nD)

/-- Every device has a duty at a barrier cell. -/
theorem duties_bar : (rd B).duties (kcell (c, none)) 0 = Finset.univ := by
  dsimp only [rd]; rw [if_pos ⟨rfl, rfl⟩, who_csem]; rfl
/-- A transfer cell has one duty. -/
theorem duties_xfer (k : SK) : (rd B).duties (kcell (c, some k)) 0 = {0} := by
  dsimp only [rd]; rw [if_pos ⟨rfl, rfl⟩, who_csem]; rfl
/-- No cell has a second round. -/
theorem duties_later (g : GSem nD τ sig) : ∀ r, 0 + 1 ≤ r → (rd B).duties g r = ∅ :=
  fun r hr => by dsimp only [rd]; exact if_neg fun h => by omega
/-- A signal is one unit. -/
theorem amount_bar (d : Dev nD) : (rd B).amount (kcell (c, none)) 0 d = 1 := by dsimp only [rd]; rw [who_csem]; rfl
/-- A transfer is the credit of its group. -/
theorem amount_xfer (k : SK) (d : Dev nD) : (rd B).amount (kcell (c, some k)) 0 d = amt k.1 := by dsimp only [rd]; rw [who_csem]; rfl
/-- The payload of a signal. -/
theorem payload_bar (d : Dev nD) : (rd B).payload (kcell (c, none)) 0 d = barPay c d := by dsimp only [rd]; rw [who_csem]; rfl
/-- The payload of a transfer. -/
theorem payload_xfer (k : SK) (d : Dev nD) : (rd B).payload (kcell (c, some k)) 0 d = xferPay B c k := by dsimp only [rd]; rw [who_csem]; rfl
/-- A barrier cell awaits 32 units, a transfer cell the credit of its transfer. -/
theorem expect_bar : (rd B).expect (kcell (c, none)) 0 = 32 := by
  unfold Schedule.expect Schedule.amountOf
  rw [duties_bar, Finset.sum_congr rfl fun d _ => amount_bar B c d, Finset.sum_const, Finset.card_univ, smul_eq_mul]; rfl
/-- A transfer cell awaits the credit of its transfer. -/
theorem expect_xfer (k : SK) : (rd B).expect (kcell (c, some k)) 0 = amt k.1 := by
  unfold Schedule.expect Schedule.amountOf; rw [duties_xfer, Finset.sum_singleton, amount_xfer]
/-- What the wait on a barrier cell takes: the slots of every device. -/
theorem rest_bar : bigSep ((rd B).duties (kcell (c, none)) 0 \ ∅) (fun d => (rd B).payload (kcell (c, none)) 0 d)
    = bigSep Finset.univ (fun d => barPay (F := F) c d) := by
  rw [Finset.sdiff_empty, duties_bar]; exact congrArg _ (funext fun d => payload_bar B c d)
/-- What the wait on a transfer cell takes. -/
theorem rest_xfer (k : SK) : bigSep ((rd B).duties (kcell (c, some k)) 0 \ ∅) (fun d => (rd B).payload (kcell (c, some k)) 0 d) = xferPay B c k := by
  rw [Finset.sdiff_empty, duties_xfer, bigSep_singleton, payload_xfer]

end Sched

/-! ## What each device owes at launch; the levels -/

/-- The sum of what is owed at the devices of a list. -/
def dues (f : Dev nD → CellTallies nD τ sig Unit) : List (Dev nD) → CellTallies nD τ sig Unit
  | [] => 0
  | d :: l => dues f l + f d

/-- The signal that is owed to device `d`. -/
abbrev dueB (d : Dev nD) : CellTallies nD τ sig Unit := tallyAt (kcell (d, none)) () 1
/-- The maximum that device `c` owes device `d`. -/
abbrev dueA (c d : Dev nD) : CellTallies nD τ sig Unit := tallyAt (kcell (d, some (1, c))) () NA
/-- The slice that device `c` owes device `d`. -/
abbrev dueQ (c d : Dev nD) : CellTallies nD τ sig Unit := tallyAt (kcell (d, some (3, c))) () NQ

/-- What device `c` owes at launch. -/
def O₀ (c : Dev nD) : CellTallies nD τ sig Unit := ((0 + dues (dueQ c) devs) + dues (dueA c) devs) + dues dueB devs

/-- The next due comes off the sum. -/
theorem dues_cons (X : CellTallies nD τ sig Unit) (f : Dev nD → CellTallies nD τ sig Unit) (d : Dev nD) (l : List (Dev nD)) :
    X + dues f (d :: l) = (X + dues f l) + f d := (add_assoc _ _ _).symm

/-- A cell that a sum of dues owes is owed by one of them. -/
theorem dues_pos {f : Dev nD → CellTallies nD τ sig Unit} {l : List (Dev nD)} {g : GSem nD τ sig} {u : Unit} (h : 0 < dues f l g u) :
    ∃ d, 0 < f d g u := by
  induction l with
  | nil => exact absurd h (Nat.lt_irrefl 0)
  | cons d l ih =>
    unfold dues at h
    rw [Pi.add_apply, Finsupp.add_apply] at h
    rcases Nat.pos_of_ne_zero (n := f d g u) |> fun _ => Nat.eq_zero_or_pos (f d g u) with h0 | h0
    · rw [h0, add_zero] at h; exact ih h
    · exact ⟨d, h0⟩

/-- The labels of a cell: one on a core's cells. -/
def L (g : GSem nD τ sig) : Finset Unit := if g.1.2 = .tc then {()} else ∅
/-- The level of a cell of the exchange: the departures lowest, then the barrier, the maxima, the slices. -/
def lvOf : Option (Option SK) → ℕ
  | some none => 1
  | some (some (k, _)) => if k = 1 then 2 else if k = 3 then 3 else 0
  | none => 0
/-- The level of any cell. -/
def lv (g : GSem nD τ sig) (_ : Unit) : ℕ := lvOf (who g.2)

/-- Off the cores no cell has a label. -/
theorem L_of_ne (g : GSem nD τ sig) (h : g.1.2 ≠ .tc) : L g = ∅ := if_neg h
/-- A core's cell has the one label. -/
theorem L_tc (c : Dev nD) (sm : SemLoc sig) : L ((c : Thread nD τ), sm) = {()} := if_pos rfl

/-- The level of a cell of the exchange. -/
theorem lv_kcell (c : Dev nD) (k : Option SK) (u : Unit) : lv (kcell (c, k)) u = lvOf (some k) := by unfold lv; rw [who_csem]

/-- What a single due owes. -/
theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

/-- Everything owed sits at a core's cell at a level above `n`. -/
def Above (n : ℕ) (O : CellTallies nD τ sig Unit) : Prop := ∀ g u, 0 < O g u → ∃ d k, g = kcell (d, k) ∧ n < lvOf (some k)

/-- A sum of two lies above what both lie above. -/
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, zero_add] at hg; exact h' g u hg
  · exact h g u h0
/-- A sum of dues lies above what each of them does. -/
theorem above_dues {n : ℕ} {f : Dev nD → CellTallies nD τ sig Unit} (l : List (Dev nD)) (h : ∀ d, Above n (f d)) : Above n (dues f l) := fun g u hg => by
  obtain ⟨d, hd⟩ := dues_pos hg
  exact h d g u hd
/-- A single due lies above every lower level. -/
theorem above_tally {n m : ℕ} {d : Dev nD} {k : Option SK} (h : n < lvOf (some k)) : Above n (tallyAt (kcell (d, k)) () m) :=
  fun g u hg => ⟨d, k, tally_pos hg, h⟩
/-- Nothing owed lies above every level. -/
theorem above_zero {n : ℕ} : Above n 0 := fun g u hg => absurd hg (Nat.lt_irrefl 0)

/-- At launch everything owed is above level 0; -/
theorem above_O₀ (c : Dev nD) : Above 0 (O₀ c) :=
  above_add (above_add (above_add above_zero (above_dues _ fun d => above_tally (show 0 < 3 by decide))) (above_dues _ fun d => above_tally (show 0 < 2 by decide)))
    (above_dues _ fun d => above_tally (show 0 < 1 by decide))
/-- at the barrier, above level 1; -/
theorem above_bar (c : Dev nD) : Above 1 ((0 + dues (dueQ c) devs) + dues (dueA c) devs) :=
  above_add (above_add above_zero (above_dues _ fun d => above_tally (show 1 < 3 by decide))) (above_dues _ fun d => above_tally (show 1 < 2 by decide))
/-- at the arrivals of the maxima, above level 2. -/
theorem above_A (c : Dev nD) : Above 2 (0 + dues (dueQ c) devs) := above_add above_zero <| above_dues _ fun d => above_tally (show 2 < 3 by decide)

/-- A wait is allowed at a level below everything owed. -/
theorem mayWait (c : Dev nD) (sm : SemLoc sig) (n : ℕ) (hn : lvOf (who sm) ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, h⟩ := hO g u hg; rw [lv_kcell]; exact h)

end Cert.KernelIdeal.Hand

end
-- ==== Proof.Steps.lean ====
module

public import proofs.«01_k».proof.Proof.Cells
public import Idealize.ShloMosaic.Lib.Pipeline.BigSepL

/-! # The loops of the exchange

A loop over the peers runs from a separate piece for each peer to a separate piece for each peer, if one round runs from
one piece to one piece. The rounds follow: a signal, a transfer of a maximum, a wait, a store of a slice, a transfer of a
slice. -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

local notation "𝕄" => MT nD τ sig Unit (Elt F) ℕ UU ℕ

/-- The loops' variants: the kernel has none. -/
abbrev 𝒱₀ : Variants := Variants.none

/-- A program of device `c` runs to `Q`. -/
abbrev Runs {α : Type} (c : Dev nD) (p : Body F α) (Q : α → sProp 𝕄) : sProp 𝕄 :=
  wp frame (wpE (defs₀ (F := F)) 𝒱₀ (c : Thread nD τ) none) Set.univ p Q

/-! ## Loops -/

/-- A loop over a list, one piece a round. -/
theorem runs_each (c : Dev nD) (H : sProp 𝕄) [BI.Persistent H] (S : List (Dev nD) → sProp 𝕄) (P R : Dev nD → sProp 𝕄)
    (f : Dev nD → Body F PUnit.{1})
    (h : ∀ d l, iprop(H ∗ S (d :: l) ∗ P d) ⊢ Runs c (f d) (fun _ => iprop(S l ∗ R d))) (l : List (Dev nD)) :
    iprop(H ∗ S l ∗ bigSepL l P) ⊢ Runs c (each l f) (fun _ => iprop(S [] ∗ bigSepL l R)) := by
  induction l with
  | nil =>
    unfold each Runs
    rw [Prog.pure_eq_ret, wp_ret]
    rw [bigSepL_nil, bigSepL_nil]
    iintro ⟨-, HS, HP⟩
    imodintro
    isplitl [HS]; · iexact HS
    iexact HP
  | cons d l ih =>
    unfold each Runs
    rw [wp_bind, bigSepL_cons', bigSepL_cons']
    iintro ⟨#HH, HS, HP, HL⟩
    iapply (wp_wand_r frame (wpE (defs₀ (F := F)) 𝒱₀ (c : Thread nD τ) none) Set.univ)
    isplitl [HS HP]
    · iapply (h d l)
      isplitr; · iexact HH
      isplitl [HS] <;> iassumption
    iintro %u ⟨HS, HR⟩
    iapply (wp_wand_r frame (wpE (defs₀ (F := F)) 𝒱₀ (c : Thread nD τ) none) Set.univ)
    isplitl [HS HL]
    · iapply ih
      isplitr; · iexact HH
      isplitl [HS] <;> iassumption
    iintro %u ⟨HS, HL⟩
    isplitl [HS]; · iexact HS
    isplitl [HR] <;> iassumption

/-- A piece for every device is a piece for each of the list. -/
theorem univ_devs (Φ : Dev nD → sProp 𝕄) : bigSep Finset.univ Φ = bigSepL devs Φ :=
  bigSep_univ_eq_bigSepL devs (Finset.ext fun d => ⟨fun _ => List.mem_toFinset.mpr (mem_devs d), fun _ => Finset.mem_univ _⟩) devs_nodup Φ

/-- A loop over all devices, what follows it run from its end. -/
theorem runs_devs (c : Dev nD) (H : sProp 𝕄) [BI.Persistent H] (S : List (Dev nD) → sProp 𝕄) (P R : Dev nD → sProp 𝕄)
    (f : Dev nD → Body F PUnit.{1}) {α : Type} (k : PUnit → Body F α) (Q : α → sProp 𝕄)
    (h : ∀ d l, iprop(H ∗ S (d :: l) ∗ P d) ⊢ Runs c (f d) (fun _ => iprop(S l ∗ R d))) :
    iprop(H ∗ S devs ∗ bigSep Finset.univ P) ⊢ iprop(((S [] ∗ bigSep Finset.univ R) -∗ Runs c (k ⟨⟩) Q) -∗ Runs c (each devs f >>= k) Q) := by
  rw [univ_devs, univ_devs]
  unfold Runs
  rw [wp_bind]
  iintro HP Hk
  iapply (wp_wand_r frame (wpE (defs₀ (F := F)) 𝒱₀ (c : Thread nD τ) none) Set.univ)
  isplitl [HP]
  · iapply (runs_each c H S P R f h devs); iexact HP
  iintro %u HP
  iapply Hk; iexact HP

/-! ## The invariants -/

variable (B : Bufs F) (K : Dev nD × Option SK → ℕ)

/-- The invariants of every cell, and that every cell is at its round. -/
def records : sProp 𝕄 :=
  iprop((bigSep Finset.univ fun ck : Dev nD × Option SK => cellInv ER (rd B) (K ck) (kcell ck))
    ∗ bigSep Finset.univ fun ck : Dev nD × Option SK => reached ER (kcell ck) 0)

/-- The records can be used any number of times. -/
instance records_persistent : BI.Persistent (records B K) := by unfold records; infer_instance

/-- One cell's invariant; -/
theorem inv_at (ck : Dev nD × Option SK) :
    (bigSep Finset.univ fun ck : Dev nD × Option SK => (cellInv ER (rd B) (K ck) (kcell ck) : sProp 𝕄)) ⊢ cellInv ER (rd B) (K ck) (kcell ck) :=
  bigSep_elim (Finset.mem_univ ck)
/-- one cell's round; -/
theorem reached_at (ck : Dev nD × Option SK) :
    (bigSep Finset.univ fun ck : Dev nD × Option SK => (reached ER (kcell ck) 0 : sProp 𝕄)) ⊢ reached ER (kcell ck) 0 :=
  bigSep_elim (Finset.mem_univ ck)
/-- both. -/
theorem rec_at (ck : Dev nD × Option SK) : records B K ⊢ iprop(cellInv ER (rd B) (K ck) (kcell ck) ∗ reached ER (kcell ck) 0) := by
  unfold records
  iintro ⟨HI, HR⟩
  isplitl [HI]
  · iapply (inv_at B K ck); iexact HI
  · iapply (reached_at (F := F) ck); iexact HR

/-- What device `c` owes, whatever it has waited for. -/
def Owes (c : Dev nD) (O : CellTallies nD τ sig Unit) : sProp 𝕄 := iprop(∃ W, owes (c : Thread nD τ) O W)

/-! ## The rounds -/

/-- A signal to `d` hands over the two slots that `d` writes. -/
theorem sig_step (c d : Dev nD) (X : CellTallies nD τ sig Unit) (l : List (Dev nD)) :
    iprop(records B K ∗ Owes c (X + dues dueB (d :: l)) ∗ (dutyTok ER (kcell (d, none)) 0 c ∗ barPay (F := F) d c))
      ⊢ Runs c (sigOp (F := F) d) (fun _ => iprop(Owes c (X + dues dueB l) ∗ emp)) := by
  unfold Runs sigOp semSignalWord Owes
  iintro ⟨#HR, ⟨%W, HO⟩, Ht, Hp⟩
  ihave H := (rec_at B K (d, none)) $$ HR
  icases H with ⟨#HI, #Hr⟩
  iapply (Rounds.wp_signal 𝒱₀ ER (rd B) (c : Thread nD τ) none (dst := (d : Thread nD τ)) (κ := K (d, none))
      (d := c) (by rw [duties_bar]; exact Finset.mem_univ _) ((amount_bar B d c).trans (by decide)) () (X + dues dueB l) (dues_cons X dueB d l))
    $$ [HO Ht Hp]
  · isplitr; · iexact HI
    isplitl [HO]; · iexact HO
    isplitl [Ht]; · iexact Ht
    isplitl [Hp]; · rw [payload_bar]; iexact Hp
    iexact Hr
  iintro HO
  rw [wp_ret]; imodintro
  isplitl [HO]; · iexists W; iexact HO
  iempintro

/-- A wait on a transfer cell takes what its transfer hands over, and the cell is closed. -/
theorem wait_step (c : Dev nD) (k : SK) (O : CellTallies nD τ sig Unit) (n : ℕ) (hn : lvOf (some (some k)) ≤ n) (hO : Above n O)
    (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (osem k) (amt k.1) Q) :
    iprop((records B K ∗ levAts L lv) ∗ Owes c O ∗ (atPos ER (kcell (c, some k)) 0 ∅ 0 ∗ cred (tallyAt (kcell (c, some k)) () (amt k.1))))
      ⊢ Runs c (Prog.lift w) (fun _ => iprop(Owes c O ∗ (semVal (kcell (c, some k)) 0 ∗ xferPay B c k))) := by
  unfold Runs Owes
  iintro ⟨⟨#HR, #Hlev⟩, ⟨%W, HO⟩, Hat, Hc⟩
  ihave H := (rec_at B K (c, some k)) $$ HR
  icases H with ⟨#HI, #Hr⟩
  iapply (Rounds.wp_wait_rest_token 𝒱₀ ER (rd B) (c : Thread nD τ) none (κ := K (c, some k)) (sm := osem k)
      hw (Set.mem_univ _) () (O := O) (W := W) (R := 0) (m := 0) (T := ∅)
      (by rw [expect_xfer, Nat.zero_add])) $$ [Hc HO Hat]
  · isplitr; · iexact HI
    isplitl [Hc]; · iexact Hc
    isplitl [HO]; · iexact HO
    isplitr; · iapply (mayWait c (osem k) n (by rw [who_osem]; exact hn) O hO); iexact Hlev
    iexact Hat
  iintro ⟨HO, Hat, -, Hpay⟩
  ihave Hp := (Entails.of_eq (rest_xfer B c k)) $$ Hpay
  imod (Rounds.cell_close ER (rd B) (Set.mem_univ (K (c, some k))) (fun h => h) (R := 0 + 1) (duties_later B (kcell (c, some k)))) $$ [Hat] with Hz
  · isplitr; · iexact HI
    iexact Hat
  rw [wp_ret]; imodintro
  isplitl [HO]; · iexists _; iexact HO
  isplitl [Hz] <;> iassumption

/-- Contents read elsewhere and written through a view agree on it with what they are read of. -/
theorem rewritten {ℓ : Loc nD τ sig} {κ : Kind} {sp : Space} {s : Shape} {e : EltTy} (v : View sig κ sp s e)
    (G fd : v.ty.Contents (Elt F)) : ∀ i ∈ v.set, v.write (Elt F) fd (v.read (Elt F) G) Finset.univ i = G i := fun i hi => by
  rw [View.write_read_eq_piecewise]; exact Finset.piecewise_eq_of_mem _ _ _ hi

/-- The transfer of the maximum to `d`, its slot and cells named. -/
theorem sendAOp_eq (c d : Dev nD) : ∃ h₁ h₂ h₃, sendAOp (F := F) c d = Prog.lift (.enqueueDma asM
    (.remote (Dev.tc d) (arAt c) (.dma (semAt cc0_scratch6 d))) (.dma (semAt cc0_scratch7 c)) h₁ h₂ h₃) := by
  have aux : ∀ (o1 : Fin 1 → ℕ) (o2 : Fin 3 → ℕ) (p1 : ∀ a, o1 a + S1.size a ≤ S32.size a) (p2 : ∀ a, o2 a + S1x8x128.size a ≤ S32x8x128.size a),
      o1 = ![c.val] → o2 = ![c.val, 0, 0] → ∃ h₁ h₂ h₃, (Prog.lift
    (.enqueueDma asM
    (.remote (Dev.tc d) ((arM.slice (Rect.unit (s := S32x8x128) o2 S1x8x128.size p2) (fun _ => rfl)).squeeze S8x128 squeezes_S1x8x128_S8x128) (.dma (semAt cc0_scratch6 d)))
    (.dma ((cc0_scratch7.slice (Rect.unit (s := S32) o1 S1.size p1)).squeeze S_ squeezes_S1_S_).sem)
    (Memref.isWhole_whole _).wordExact ((View.wordExact_bits rfl).reshape _ _) ⟨⟨rfl, Or.inl rfl⟩, trivial⟩) : Body F PUnit.{1})
      = Prog.lift (.enqueueDma asM
    (.remote (Dev.tc d) (arAt c) (.dma (semAt cc0_scratch6 d))) (.dma (semAt cc0_scratch7 c)) h₁ h₂ h₃) := by
    intro o1 o2 p1 p2 e1 e2
    subst e1; subst e2
    exact ⟨_, _, _, rfl⟩
  exact aux _ _ (k0_off1_inb c) (k0_off2_inb c) (off1_eq c) (off2_eq c)

/-- The transfer of the slice to `d`, its slot and cells named. -/
theorem sendQOp_eq (c d : Dev nD) : ∃ h₁ h₂ h₃, sendQOp (F := F) c d = Prog.lift (.enqueueDma (qsAt d)
    (.remote (Dev.tc d) (qrAt c) (.dma (semAt cc0_scratch4 d))) (.dma (semAt cc0_scratch5 c)) h₁ h₂ h₃) := by
  have aux : ∀ (o1 : Fin 1 → ℕ) (o2 : Fin 3 → ℕ) (p1 : ∀ a, o1 a + S1.size a ≤ S32.size a) (p2 : ∀ a, o2 a + S1x128x64.size a ≤ S32x128x64.size a)
      (hw : (Rect.unit (s := S32x128x64) o2 S1x128x64.size p2).WholeWords (EltTy.packing .fp8e4m3)),
      o1 = ![c.val] → o2 = ![c.val, 0, 0] → ∃ h₁ h₂ h₃, (Prog.lift
    (.enqueueDma (qsAt d)
    (.remote (Dev.tc d) ((qrM.slice (Rect.unit (s := S32x128x64) o2 S1x128x64.size p2) (fun _ => rfl)).squeeze S128x64 squeezes_S1x128x64_S128x64) (.dma (semAt cc0_scratch4 d)))
    (.dma ((cc0_scratch5.slice (Rect.unit (s := S32) o1 S1.size p1)).squeeze S_ squeezes_S1_S_).sem)
    (((Memref.isWhole_whole _).wordExact_slice rfl _ (wordsQ d)).reshape _ _) (((Memref.isWhole_whole _).wordExact_slice rfl _ hw).reshape _ _) ⟨⟨rfl, Or.inl rfl⟩, trivial⟩) : Body F PUnit.{1})
      = Prog.lift (.enqueueDma (qsAt d)
    (.remote (Dev.tc d) (qrAt c) (.dma (semAt cc0_scratch4 d))) (.dma (semAt cc0_scratch5 c)) h₁ h₂ h₃) := by
    intro o1 o2 p1 p2 hw e1 e2
    subst e1; subst e2
    exact ⟨_, _, _, rfl⟩
  exact aux _ _ (k0_off1_inb c) (k0_off3_inb c) (k0_off3_wordsfp8e4m3 c) (off1_eq c) (off3_eq c)

/-- A transfer to `d`, its two cells transfer cells of the schedule, what it reads and writes their payloads. -/
theorem send_step (c d : Dev nD) (k₁ k₂ : SK) (hk : amt k₂.1 = amt k₁.1) {sp sp' : Space} {s : Shape} {e : EltTy}
    (src : Memref sig .tc sp s e) (dst : Memref sig .tc sp' s e) {hsc : dst.view.ref.isScScratch = false}
    {hsrc : src.view.WordExact} {hdst : dst.view.WordExact}
    {hsem : DmaTarget.Typed sp (osem k₂) (.remote (Dev.tc d : Thread nD τ) dst (osem k₁) hsc)}
    (hN : dst.view.dmaCredit = amt k₁.1) (q : PosShare TreeShare)
    (fs : src.view.ty.Contents (Elt F)) (fd G : dst.view.ty.Contents (Elt F))
    (h₁ : (src.view.loc (c : Thread nD τ) ↦[src.view.set]{q} fs) ⊢ xferPay B c k₁)
    (h₂ : (dst.view.loc (d : Thread nD τ) ↦[dst.view.set]{fullShare} G) ⊢ xferPay B d k₂)
    (hG : dst.view.read (Elt F) G = src.view.read (Elt F) fs)
    (O O' : CellTallies nD τ sig Unit) (hO : O' = O + tallyAt (kcell (d, some k₂)) () (amt k₁.1)) :
    iprop(records B K ∗ Owes c O'
        ∗ (dutyTok ER (kcell (c, some k₁)) 0 0 ∗ dutyTok ER (kcell (d, some k₂)) 0 0
          ∗ (src.view.loc (c : Thread nD τ) ↦[src.view.set]{q} fs) ∗ (dst.view.loc (d : Thread nD τ) ↦[dst.view.set]{fullShare} fd)))
      ⊢ Runs c (Prog.lift (.enqueueDma src (.remote (Dev.tc d) dst (osem k₁) hsc) (osem k₂) hsrc hdst hsem))
          (fun _ => iprop(Owes c O ∗ cred (tallyAt (kcell (c, some k₁)) () (amt k₁.1)))) := by
  unfold Runs Owes
  iintro ⟨#HR, ⟨%W, HO⟩, Ht1, Ht2, Hs, Hd⟩
  ihave H := (rec_at B K (c, some k₁)) $$ HR
  icases H with ⟨#HI1, #Hr1⟩
  ihave H := (rec_at B K (d, some k₂)) $$ HR
  icases H with ⟨#HI2, #Hr2⟩
  iapply (Rounds.wp_send_pointsTo 𝒱₀ ER (rd B) (c : Thread nD τ) none (c' := (d : Thread nD τ)) (src := src) (dst := dst) (κ₁ := K (c, some k₁)) (κ₂ := K (d, some k₂))
    (sS := osem k₁) (sem := osem k₂) (r₁ := 0) (r₂ := 0) (d₁ := 0) (d₂ := 0) (fd := fd)
    (by rw [duties_xfer]; exact Finset.mem_singleton_self _) (by rw [duties_xfer]; exact Finset.mem_singleton_self _)
    () () (amt k₁.1) hN (amount_xfer B c k₁ 0) ((amount_xfer B d k₂ 0).trans hk) O hO (W := W)
    (by rw [payload_xfer]; exact h₁)
    (by
      rw [payload_xfer, ← hG]
      exact (Entails.of_eq (pointsTo_congr (rewritten (ℓ := dst.view.loc (d : Thread nD τ)) dst.view G fd))).trans h₂)) $$ [Ht1 Ht2 Hs Hd HO]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]; · iexists W; iexact HO
  iexact Hc

/-- The transfer of the maximum to `d`: a share of it goes, and the slot of `d`. -/
theorem sendA_step (hA : ∀ c d, (arAt c).view.read (Elt F) (B.amax d) = asM.view.read (Elt F) (B.lmax c))
    (c d : Dev nD) (X : CellTallies nD τ sig Unit) (l : List (Dev nD)) :
    iprop(records B K ∗ Owes c (X + dues (dueA c) (d :: l))
        ∗ (dutyTok ER (kcell (c, some (0, d))) 0 0 ∗ dutyTok ER (kcell (d, some (1, c))) 0 0 ∗ asPts c d (B.lmax c) ∗ ∃ f, arPts (F := F) d c f))
      ⊢ Runs c (sendAOp (F := F) c d) (fun _ => iprop(Owes c (X + dues (dueA c) l) ∗ cred (tallyAt (kcell (c, some (0, d))) () NA))) := by
  obtain ⟨h₁, h₂, h₃, he⟩ := sendAOp_eq (F := F) c d
  rw [he]
  iintro ⟨#HR, HO, Ht1, Ht2, Hs, ⟨%f, Hd⟩⟩
  iapply (send_step B K c d (0, d) (1, c) rfl asM (arAt c) (credit_ar c) (leaf 5 fullShare d) (B.lmax c) f (B.amax d) (BI.Entails.refl _) (BI.Entails.refl _) (hA c d)
    (X + dues (dueA c) l) (X + dues (dueA c) (d :: l)) (dues_cons X (dueA c) d l))
  isplitr; · iexact HR
  isplitl [HO]; · iexact HO
  isplitl [Ht1]; · iexact Ht1
  isplitl [Ht2]; · iexact Ht2
  isplitl [Hs]; · unfold asPts; iexact Hs
  unfold arPts; iexact Hd

/-- The transfer of the slice to `d`: its slot goes, and the slot of `d`. -/
theorem sendQ_step (hQ : ∀ c d, (qrAt c).view.read (Elt F) (B.rcv d) = (qsAt d).view.read (Elt F) (B.snd c))
    (c d : Dev nD) (X : CellTallies nD τ sig Unit) (l : List (Dev nD)) :
    iprop(records B K ∗ Owes c (X + dues (dueQ c) (d :: l))
        ∗ (dutyTok ER (kcell (c, some (2, d))) 0 0 ∗ dutyTok ER (kcell (d, some (3, c))) 0 0 ∗ qsPts c d (B.snd c) ∗ ∃ f, qrPts (F := F) d c f))
      ⊢ Runs c (sendQOp (F := F) c d) (fun _ => iprop(Owes c (X + dues (dueQ c) l) ∗ cred (tallyAt (kcell (c, some (2, d))) () NQ))) := by
  obtain ⟨h₁, h₂, h₃, he⟩ := sendQOp_eq (F := F) c d
  rw [he]
  iintro ⟨#HR, HO, Ht1, Ht2, Hs, ⟨%f, Hd⟩⟩
  iapply (send_step B K c d (2, d) (3, c) rfl (qsAt d) (qrAt c) (credit_qr c) fullShare (B.snd c) f (B.rcv d) (BI.Entails.refl _) (BI.Entails.refl _) (hQ c d)
    (X + dues (dueQ c) l) (X + dues (dueQ c) (d :: l)) (dues_cons X (dueQ c) d l))
  isplitr; · iexact HR
  isplitl [HO]; · iexact HO
  isplitl [Ht1]; · iexact Ht1
  isplitl [Ht2]; · iexact Ht2
  isplitl [Hs]; · unfold qsPts; iexact Hs
  unfold qrPts; iexact Hd

/-- A slot as the store sees it. -/
theorem qs_set (d : Dev nD) : (qsM.access (rectQ d)).set = (qsAt d).view.set := (View.set_reshape _ _).symm

/-- The store of the slice for `d` fills its slot. -/
theorem storeQ_step (c d : Dev nD) (yq : FVec F S128x2048 .fp8e4m3) (S : List (Dev nD) → sProp 𝕄) (l : List (Dev nD)) (hS : S (d :: l) = S l)
    (hB : (qsM.access (rectQ d)).read (Elt F) (B.snd c) = payQ yq d) :
    iprop(emp ∗ S (d :: l) ∗ (∃ f, qsPts (F := F) c d f)) ⊢ Runs c (storeQOp yq d) (fun _ => iprop(S l ∗ qsPts c d (B.snd c))) := by
  rw [hS]
  unfold Runs storeQOp qsPts
  simp only [Prog.lift, Prog.bind_op, Prog.bind_ret, Prog.pure_eq_ret]
  iintro ⟨-, HS, ⟨%f, Hf⟩⟩
  iapply (wp_load_rect 𝒱₀ (c : Thread nD τ) none Set.univ (m := qsM) (r := rectQ d) (S := (qsAt d).view.set) (by rw [qs_set])) $$ Hf
  iintro Hf
  iapply (wp_store 𝒱₀ (c : Thread nD τ) none Set.univ (m := qsM) (r := rectQ d) (Mk := Finset.univ) (S := (qsAt d).view.set) (by rw [← qs_set]; exact Finset.Subset.refl _)) $$ Hf
  iintro Hf
  rw [wp_ret]; imodintro
  isplitl [HS]; · iexact HS
  rw [← hB]
  ihave Hf' := (Entails.of_eq (pointsTo_congr (ℓ := (qsAt d).view.loc (c : Thread nD τ)) (q := fullShare) (I := (qsAt d).view.set)
    (fun i hi => rewritten (ℓ := (qsAt d).view.loc (c : Thread nD τ)) (qsM.access (rectQ d)) (B.snd c) f i (by rw [qs_set]; exact hi)))) $$ Hf
  iexact Hf'

end Cert.KernelIdeal.Hand

end
-- ==== Proof.Contents.lean ====
module

public import proofs.«01_k».proof.Proof.Steps

/-! # What the buffers hold

From the staged inputs of every device: its local maximum, the maxima of all devices, the quantised blocks, the slices sent
and received, the result. A slot, read, is what its sender held (`read_amax`, `read_slices`). -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type} [FloatOps F]

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The staged block of `x`. -/
def xstg (c : Dev nD) : (cc0_stg0_0 : Ref sig .tc).ty.Contents (Elt F) :=
  (win0_0.blk (0 : Fin 1)).view.read (Elt F) ((s₀ m ρ).mem ((c : Thread nD τ).loc main_arg0))
/-- The staged `w`. -/
def wstg (c : Dev nD) : (cc0_stg1_0 : Ref sig .tc).ty.Contents (Elt F) :=
  (win0_1.blk (0 : Fin 1)).view.read (Elt F) ((s₀ m ρ).mem ((c : Thread nD τ).loc main_arg1))

/-- The product of device `c`, clipped below at zero. -/
def yOf (c : Dev nD) : FVec F S128x2048 .f32 := k0_pay1 (xstg m ρ c) (wstg m ρ c)
/-- The maximum of the product of device `c`, spread over a tile. -/
def maxOf (c : Dev nD) : (cc0_scratch2 : Ref sig .tc).ty.Contents (Elt F) := k0_pay2 (xstg m ρ c) (wstg m ρ c)

/-- A place within its slot. -/
def inA (i : S32x8x128.Idx) : S1x8x128.Idx
  | ⟨0, _⟩ => ⟨0, Nat.one_pos⟩ | ⟨1, _⟩ => i 1 | ⟨2, _⟩ => i 2
/-- A place within its slot of the slices. -/
def inQ (i : S32x128x64.Idx) : S1x128x64.Idx
  | ⟨0, _⟩ => ⟨0, Nat.one_pos⟩ | ⟨1, _⟩ => i 1 | ⟨2, _⟩ => i 2

/-- The maxima of all devices, one in each slot. -/
def maxima : (cc0_scratch3 : Ref sig .tc).ty.Contents (Elt F) := fun (i : S32x8x128.Idx) =>
  maxOf m ρ (i 0) ((Shape.reshapeEquiv squeezes_S1x8x128_S8x128.numel_eq).symm (inA i))

/-- The scale every device derives from the maxima. -/
def scOf : F .f32 := k0_pay3 (maxima m ρ)
/-- The quantised block of device `c`. -/
def yqOf (c : Dev nD) : FVec F S128x2048 .fp8e4m3 := k0_pay5 (yOf m ρ c) (k0_pay4 (maxima m ρ))

/-- The slices device `c` sends. -/
def slicesOf (c : Dev nD) : (cc0_scratch0 : Ref sig .tc).ty.Contents (Elt F) := fun (i : S32x128x64.Idx) => payQ (yqOf m ρ c) (i 0) (inQ i)
/-- The slices device `c` receives. -/
def recvOf (c : Dev nD) : (cc0_scratch1 : Ref sig .tc).ty.Contents (Elt F) := fun (i : S32x128x64.Idx) => payQ (yqOf m ρ (i 0)) c (inQ i)

/-- The result of device `c`. -/
def outOf (c : Dev nD) : (cc0_stg2_0 : Ref sig .tc).ty.Contents (Elt F) := k0_pay42 (scOf m ρ) (recvOf m ρ c)

/-- The contents the exchange moves. -/
def bufs : Bufs F := ⟨maxOf m ρ, fun _ => maxima m ρ, slicesOf m ρ, recvOf m ρ⟩

/-- A slot's places. -/
abbrev rectA (d : Dev nD) : Rect S32x8x128 := Rect.unit (s := S32x8x128) ![d.val, 0, 0] S1x8x128.size (inbA d)
/-- The slot of a place of slot `d` is `d`, and the place within it is kept. -/
theorem embA_slot (d : Dev nD) (y : S1x8x128.Idx) : (rectA d).emb y 0 = d := by
  apply Fin.ext
  have h : (y 0).val = 0 := Nat.lt_one_iff.mp (y 0).isLt
  show d.val + 1 * (y 0).val = d.val
  omega
/-- The place within a slot of the maxima is kept. -/
theorem embA_in (d : Dev nD) (y : S1x8x128.Idx) : inA ((rectA d).emb y) = y := by
  funext a; apply Fin.ext
  match a with
  | ⟨0, _⟩ => exact (Nat.lt_one_iff.mp (y 0).isLt).symm
  | ⟨1, _⟩ => show 0 + 1 * (y 1).val = (y 1).val; omega
  | ⟨2, _⟩ => show 0 + 1 * (y 2).val = (y 2).val; omega
/-- The slot of a place of slot `d` of the slices is `d`. -/
theorem embQ_slot (d : Dev nD) (y : S1x128x64.Idx) : (rectQ d).emb y 0 = d := by
  apply Fin.ext
  have h : (y 0).val = 0 := Nat.lt_one_iff.mp (y 0).isLt
  show d.val + 1 * (y 0).val = d.val
  omega
/-- The place within a slot of the slices is kept. -/
theorem embQ_in (d : Dev nD) (y : S1x128x64.Idx) : inQ ((rectQ d).emb y) = y := by
  funext a; apply Fin.ext
  match a with
  | ⟨0, _⟩ => exact (Nat.lt_one_iff.mp (y 0).isLt).symm
  | ⟨1, _⟩ => show 0 + 1 * (y 1).val = (y 1).val; omega
  | ⟨2, _⟩ => show 0 + 1 * (y 2).val = (y 2).val; omega

/-- Slot `c` of the maxima, read, is the local maximum of `c`. -/
theorem read_amax (c d : Dev nD) : (arAt c).view.read (Elt F) ((bufs m ρ).amax d) = asM.view.read (Elt F) ((bufs m ρ).lmax c) := by
  have h : ∀ g : (cc0_scratch3 : Ref sig .tc).ty.Contents (Elt F), (arAt c).view.read (Elt F) g
      = fun x => g ((rectA c).emb (Shape.reshapeEquiv squeezes_S1x8x128_S8x128.numel_eq x)) := fun g => rfl
  have h' : ∀ g : (cc0_scratch2 : Ref sig .tc).ty.Contents (Elt F), asM.view.read (Elt F) g = g := View.read_whole cc0_scratch2
  have e₁ : (bufs m ρ).amax d = maxima m ρ := by dsimp only [bufs]
  have e₂ : (bufs m ρ).lmax c = maxOf m ρ c := by dsimp only [bufs]
  rw [e₁, e₂, h, h']
  funext x
  unfold maxima
  rw [embA_slot, embA_in, Equiv.symm_apply_apply]

/-- Slot `d` of the slices of `c`, as the store sees it. -/
theorem access_slices (c d : Dev nD) : (qsM.access (rectQ d)).read (Elt F) ((bufs m ρ).snd c) = payQ (yqOf m ρ c) d := by
  funext y
  show payQ (yqOf m ρ c) ((rectQ d).emb y 0) (inQ ((rectQ d).emb y)) = payQ (yqOf m ρ c) d y
  rw [embQ_slot, embQ_in]

/-- Slot `c` of what `d` receives, read, is slot `d` of what `c` sends. -/
theorem read_slices (c d : Dev nD) : (qrAt c).view.read (Elt F) ((bufs m ρ).rcv d) = (qsAt d).view.read (Elt F) ((bufs m ρ).snd c) := by
  funext x
  show payQ (yqOf m ρ ((rectQ c).emb (Shape.reshapeEquiv squeezes_S1x128x64_S128x64.numel_eq x) 0)) d (inQ ((rectQ c).emb (Shape.reshapeEquiv squeezes_S1x128x64_S128x64.numel_eq x)))
    = payQ (yqOf m ρ c) ((rectQ d).emb (Shape.reshapeEquiv squeezes_S1x128x64_S128x64.numel_eq x) 0) (inQ ((rectQ d).emb (Shape.reshapeEquiv squeezes_S1x128x64_S128x64.numel_eq x)))
  rw [embQ_slot, embQ_slot, embQ_in, embQ_in]

end Cert.KernelIdeal.Hand

end
-- ==== Proof.Slots.lean ====
module

public import proofs.«01_k».proof.Proof.Contents
public import Idealize.ShloMosaic.Lib.Ring

/-! # Buffers and their slots

A buffer of 32 slots held whole is its slots, and the local maximum held whole is 32 shares of it. What a device starts
the exchange with and what it holds at the end is stated here. -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Ring
open Idealize.ShloMosaic.Pipeline (Dat Cfg Window BodyObligation cellOf)

variable {F : FTy → Type} [FloatOps F]

local notation "𝕄" => MT nD τ sig Unit (Elt F) ℕ UU ℕ

/-! ## Slots -/

/-- The places of a slot. -/
theorem ar_set (d : Dev nD) : (arAt d).view.set = (rectA d).set :=
  (View.set_reshape _ _).trans (View.set_slice_whole cc0_scratch3 (rectA d))
/-- The places of a slot of the received slices. -/
theorem qr_set (d : Dev nD) : (qrAt d).view.set = (rectQ d).set :=
  (View.set_reshape _ _).trans (View.set_slice_whole cc0_scratch1 (rectQ d))
/-- The places of a slot of the slices to send. -/
theorem qs_set' (d : Dev nD) : (qsAt d).view.set = (rectQ d).set :=
  (View.set_reshape _ _).trans (View.set_slice_whole cc0_scratch0 (rectQ d))

/-- Slots are disjoint and cover their buffer. -/
theorem disjA (d d' : Dev nD) (h : d ≠ d') : Disjoint (rectA d).set (rectA d').set :=
  lead_disjoint (s := S32x8x128) (NB := 32) (0 : Fin 3) 1 (fun d => ![d.val, 0, 0]) S1x8x128.size inbA (fun b => (Nat.one_mul _).symm) rfl d d' h
/-- Slots of the slices are disjoint. -/
theorem disjQ (d d' : Dev nD) (h : d ≠ d') : Disjoint (rectQ d).set (rectQ d').set :=
  lead_disjoint (s := S32x128x64) (NB := 32) (0 : Fin 3) 1 (fun d => ![d.val, 0, 0]) S1x128x64.size inbQ (fun b => (Nat.one_mul _).symm) rfl d d' h
/-- The slots of the maxima cover their buffer. -/
theorem coverA : Finset.univ.biUnion (fun d : Dev nD => (rectA d).set) = Finset.univ :=
  lead_cover (s := S32x8x128) (NB := 32) (0 : Fin 3) 1 (fun d => ![d.val, 0, 0]) S1x8x128.size inbA (fun b => (Nat.one_mul _).symm)
    (fun b a ha => by match a with | ⟨0, _⟩ => exact absurd rfl ha | ⟨1, _⟩ => rfl | ⟨2, _⟩ => rfl) rfl
    (fun a ha => by match a with | ⟨0, _⟩ => exact absurd rfl ha | ⟨1, _⟩ => rfl | ⟨2, _⟩ => rfl) rfl
/-- The slots of the slices cover their buffer. -/
theorem coverQ : Finset.univ.biUnion (fun d : Dev nD => (rectQ d).set) = Finset.univ :=
  lead_cover (s := S32x128x64) (NB := 32) (0 : Fin 3) 1 (fun d => ![d.val, 0, 0]) S1x128x64.size inbQ (fun b => (Nat.one_mul _).symm)
    (fun b a ha => by match a with | ⟨0, _⟩ => exact absurd rfl ha | ⟨1, _⟩ => rfl | ⟨2, _⟩ => rfl) rfl
    (fun a ha => by match a with | ⟨0, _⟩ => exact absurd rfl ha | ⟨1, _⟩ => rfl | ⟨2, _⟩ => rfl) rfl

/-- A whole buffer is its slots. -/
theorem ar_slots (c : Dev nD) (f : (cc0_scratch3 : Ref sig .tc).ty.Contents (Elt F)) :
    (((c : Thread nD τ).loc cc0_scratch3) ↦{fullShare} f : sProp 𝕄) = bigSep Finset.univ fun d => arPts c d f := by
  rw [pointsTo_blocks (ℓ := (c : Thread nD τ).loc cc0_scratch3) (fun d : Dev nD => (rectA d).set) disjA coverA]
  exact congrArg _ (funext fun d => by unfold arPts; rw [ar_set])
/-- The buffer of the received slices is its slots. -/
theorem qr_slots (c : Dev nD) (f : (cc0_scratch1 : Ref sig .tc).ty.Contents (Elt F)) :
    (((c : Thread nD τ).loc cc0_scratch1) ↦{fullShare} f : sProp 𝕄) = bigSep Finset.univ fun d => qrPts c d f := by
  rw [pointsTo_blocks (ℓ := (c : Thread nD τ).loc cc0_scratch1) (fun d : Dev nD => (rectQ d).set) disjQ coverQ]
  exact congrArg _ (funext fun d => by unfold qrPts; rw [qr_set])
/-- The buffer of the slices to send is its slots. -/
theorem qs_slots (c : Dev nD) (f : (cc0_scratch0 : Ref sig .tc).ty.Contents (Elt F)) :
    (((c : Thread nD τ).loc cc0_scratch0) ↦{fullShare} f : sProp 𝕄) = bigSep Finset.univ fun d => qsPts c d f := by
  rw [pointsTo_blocks (ℓ := (c : Thread nD τ).loc cc0_scratch0) (fun d : Dev nD => (rectQ d).set) disjQ coverQ]
  exact congrArg _ (funext fun d => by unfold qsPts; rw [qs_set'])
/-- The local maximum held whole is a share for each device. -/
theorem as_shares (c : Dev nD) (f : (cc0_scratch2 : Ref sig .tc).ty.Contents (Elt F)) :
    (((c : Thread nD τ).loc cc0_scratch2) ↦{fullShare} f : sProp 𝕄) = bigSep Finset.univ fun d => asPts c d f := by
  refine (pointsTo_leaves (ℓ := (c : Thread nD τ).loc cc0_scratch2) Finset.univ f 5 fullShare).trans ?_
  exact congrArg (bigSep (Finset.univ : Finset (Dev nD))) (funext fun d => by unfold asPts; rw [View.set_whole])

/-- A piece for every transfer cell is a piece for every peer in each group. -/
theorem bigSep_SK (Φ : SK → sProp 𝕄) : bigSep Finset.univ Φ
    = iprop((bigSep Finset.univ fun d => Φ (0, d)) ∗ (bigSep Finset.univ fun d => Φ (1, d)) ∗ (bigSep Finset.univ fun d => Φ (2, d)) ∗ (bigSep Finset.univ fun d => Φ (3, d))) := by
  rw [bigSep_univ_prod]
  exact bigSep_univ_eq_bigSepL [(0 : Fin 4), 1, 2, 3] (by decide) (by decide) _

/-! ## The start and the end of the exchange on a device -/

variable (m : (ℓ : Loc nD τ sig) → Buf (Elt F) ℓ) (ρ : Dev nD → PrngReg)

/-- The tokens of the duties that device `c` pays. -/
def payToks (c : Dev nD) : sProp 𝕄 :=
  iprop((bigSep Finset.univ fun d => dutyTok ER (kcell (d, none)) 0 c)
    ∗ (bigSep Finset.univ fun d => dutyTok ER (kcell (c, some (0, d))) 0 0) ∗ (bigSep Finset.univ fun d => dutyTok ER (kcell (d, some (1, c))) 0 0)
    ∗ (bigSep Finset.univ fun d => dutyTok ER (kcell (c, some (2, d))) 0 0) ∗ (bigSep Finset.univ fun d => dutyTok ER (kcell (d, some (3, c))) 0 0))

/-- What stays with device `c`: its positions at its cells and the tokens it pays with. -/
def linear (c : Dev nD) : sProp 𝕄 :=
  iprop((atPos ER (kcell (c, none)) 0 ∅ 0 ∗ bigSep Finset.univ fun k : SK => atPos ER (kcell (c, some k)) 0 ∅ 0) ∗ payToks (F := F) c)

/-- The ghost state device `c` starts from. -/
def ghost (K : Dev nD × Option SK → ℕ) (c : Dev nD) : sProp 𝕄 := iprop(records (bufs m ρ) K ∗ linear (F := F) c)

/-- The credits device `c` starts with: the signals of all devices, the arrivals. -/
def creds (c : Dev nD) : sProp 𝕄 :=
  iprop(cred (tallyAt (kcell (c, none)) () 32) ∗ (bigSep Finset.univ fun d => cred (tallyAt (kcell (c, some (1, d))) () NA))
    ∗ (bigSep Finset.univ fun d => cred (tallyAt (kcell (c, some (3, d))) () NQ)))

/-- What device `c` starts from. -/
def start (c : Dev nD) : sProp 𝕄 := iprop((∃ K, ghost m ρ K c) ∗ creds (F := F) c ∗ levAts L lv)

/-- A buffer of device `c`, held whole at some contents. -/
abbrev some' (c : Dev nD) (b : Ref sig .tc) : sProp 𝕄 := iprop(∃ f : Buf (Elt F) ((c : Thread nD τ).loc b), ((c : Thread nD τ).loc b) ↦{fullShare} f)

/-- The four scratch buffers at some contents. -/
def scratch (c : Dev nD) : sProp 𝕄 :=
  iprop(some' (F := F) c cc0_scratch0 ∗ some' (F := F) c cc0_scratch1 ∗ some' (F := F) c cc0_scratch2 ∗ some' (F := F) c cc0_scratch3)

/-- Before the body: the exchange's ghost state and credits, and the scratch buffers. -/
def Φ₀ (c : Dev nD) : sProp 𝕄 := iprop(start m ρ c ∗ scratch (F := F) c)
/-- After the body: the scratch buffers at some contents, every cell of the exchange at zero. -/
def Φ₁ (c : Dev nD) : sProp 𝕄 :=
  iprop(scratch (F := F) c ∗ (bigSep Finset.univ fun k : SK => semVal (kcell (c, some k)) 0) ∗ semVal (kcell (c, none)) 0)

/-- The pipeline's proof data: the arrays of the memory, the staged inputs kept, the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outOf m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

end Cert.KernelIdeal.Hand

end
-- ==== Proof.Body.lean ====
module

public import proofs.«01_k».proof.Proof.Slots

/-! # The body of the kernel on a device

The exchange is run from `Φ₀` to `Φ₁`: the maxima (`head_runs`), then the slices and the result (`tail_runs`). -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option SK → ℕ)

/-! ## The loops with what follows them -/

/-- No due is left at the end of a loop. -/
theorem dues_nil (X : CellTallies nD τ sig Unit) (f : Dev nD → CellTallies nD τ sig Unit) : X + dues f [] = X := add_zero X

/-- The waits of a group. -/
theorem waits_loop (B : Bufs F) (c : Dev nD) (k : Fin 4) (f : Dev nD → Body F PUnit.{1}) (O : CellTallies nD τ sig Unit) (n : ℕ)
    (hn : ∀ d, lvOf (some (some (k, d))) ≤ n) (hO : Above n O)
    (hf : ∀ d, ∃ w, f d = Prog.lift w ∧ ∀ Q : PUnit → sProp 𝕄,
      wpE (defs₀ (F := F)) 𝒱₀ (c : Thread nD τ) none Set.univ w Q = waitSpec (c : Thread nD τ) Set.univ (osem (k, d)) (amt k) Q)
    {α : Type} (r : PUnit → Body F α) (Q : α → sProp 𝕄) :
    iprop((records B K ∗ levAts L lv) ∗ Owes c O
        ∗ bigSep Finset.univ fun d => iprop(atPos ER (kcell (c, some (k, d))) 0 ∅ 0 ∗ cred (tallyAt (kcell (c, some (k, d))) () (amt k))))
      ⊢ iprop(((Owes c O ∗ bigSep Finset.univ fun d => iprop(semVal (kcell (c, some (k, d))) 0 ∗ xferPay B c (k, d))) -∗ Runs c (r ⟨⟩) Q)
          -∗ Runs c (each devs f >>= r) Q) :=
  runs_devs c iprop(records B K ∗ levAts L lv) (fun _ => Owes c O) _ _ f r Q fun d l => by
    obtain ⟨w, hw, hs⟩ := hf d
    rw [hw]
    exact wait_step B K c (k, d) O n (hn d) hO w hs

/-- The wait for the departure of a maximum, as its cell sees it. -/
theorem waitAS_spec (c d : Dev nD) : ∃ w, waitASOp (F := F) d = Prog.lift w ∧ ∀ Q : PUnit → sProp 𝕄,
    wpE (defs₀ (F := F)) 𝒱₀ (c : Thread nD τ) none Set.univ w Q = waitSpec (c : Thread nD τ) Set.univ (osem (0, d)) (amt 0) Q :=
  ⟨_, rfl, fun Q => wpE_waitDma2_eq 𝒱₀ (c : Thread nD τ) none Set.univ Q⟩
/-- The wait for the arrival of a maximum. -/
theorem waitAR_spec (c d : Dev nD) : ∃ w, waitAROp (F := F) d = Prog.lift w ∧ ∀ Q : PUnit → sProp 𝕄,
    wpE (defs₀ (F := F)) 𝒱₀ (c : Thread nD τ) none Set.univ w Q = waitSpec (c : Thread nD τ) Set.univ (osem (1, d)) (amt 1) Q :=
  ⟨_, rfl, fun Q => wpE_waitDma2_eq 𝒱₀ (c : Thread nD τ) none Set.univ Q⟩
/-- The wait for the departure of a slice. -/
theorem waitQS_spec (c d : Dev nD) : ∃ w, waitQSOp (F := F) d = Prog.lift w ∧ ∀ Q : PUnit → sProp 𝕄,
    wpE (defs₀ (F := F)) 𝒱₀ (c : Thread nD τ) none Set.univ w Q = waitSpec (c : Thread nD τ) Set.univ (osem (2, d)) (amt 2) Q :=
  ⟨_, rfl, fun Q => wpE_waitDma2_eq 𝒱₀ (c : Thread nD τ) none Set.univ Q⟩
/-- The wait for the arrival of a slice. -/
theorem waitQR_spec (c d : Dev nD) : ∃ w, waitQROp (F := F) d = Prog.lift w ∧ ∀ Q : PUnit → sProp 𝕄,
    wpE (defs₀ (F := F)) 𝒱₀ (c : Thread nD τ) none Set.univ w Q = waitSpec (c : Thread nD τ) Set.univ (osem (3, d)) (amt 3) Q :=
  ⟨_, rfl, fun Q => wpE_waitDma2_eq 𝒱₀ (c : Thread nD τ) none Set.univ Q⟩

/-! ## Whole loads and stores -/

/-- Zero offsets. -/
theorem hz2 : (![0, 0] : Fin 2 → Nat) = fun _ => 0 := funext fun a => by match a with | ⟨0, _⟩ => rfl | ⟨1, _⟩ => rfl
/-- Zero offsets on three axes. -/
theorem hz3 : (![0, 0, 0] : Fin 3 → Nat) = fun _ => 0 := funext fun a => by match a with | ⟨0, _⟩ => rfl | ⟨1, _⟩ => rfl | ⟨2, _⟩ => rfl

/-- A whole load reads the contents. -/
theorem read_x (f : (cc0_stg0_0 : Ref sig .tc).ty.Contents (Elt F)) :
    xM.view.readAt (Elt F) (Rect.unit (s := S128x4096) ![0, 0] S128x4096.size inb_S128x4096_S128x4096_0_0).toLoadRect f = f :=
  Memref.readAt_unit_zero (Elt F) cc0_stg0_0 hz2 _ f
/-- A whole load of `w` reads its contents. -/
theorem read_w (f : (cc0_stg1_0 : Ref sig .tc).ty.Contents (Elt F)) :
    wM.view.readAt (Elt F) (Rect.unit (s := S4096x2048) ![0, 0] S4096x2048.size inb_S4096x2048_S4096x2048_0_0).toLoadRect f = f :=
  Memref.readAt_unit_zero (Elt F) cc0_stg1_0 hz2 _ f
/-- A whole load of the received maxima reads their contents. -/
theorem read_ar (f : (cc0_scratch3 : Ref sig .tc).ty.Contents (Elt F)) :
    arM.view.readAt (Elt F) (Rect.unit (s := S32x8x128) ![0, 0, 0] S32x8x128.size inb_S32x8x128_S32x8x128_0_0_0).toLoadRect f = f :=
  Memref.readAt_unit_zero (Elt F) cc0_scratch3 hz3 _ f
/-- A whole load of the received slices reads their contents. -/
theorem read_qr (f : (cc0_scratch1 : Ref sig .tc).ty.Contents (Elt F)) :
    qrM.view.readAt (Elt F) (Rect.unit (s := S32x128x64) ![0, 0, 0] S32x128x64.size inb_S32x128x64_S32x128x64_0_0_0).toLoadRect f = f :=
  Memref.readAt_unit_zero (Elt F) cc0_scratch1 hz3 _ f
/-- A whole store leaves what it stores. -/
theorem write_as (f w : (cc0_scratch2 : Ref sig .tc).ty.Contents (Elt F)) :
    (asM.access (Rect.unit (s := S8x128) ![0, 0] S8x128.size inb_S8x128_S8x128_0_0)).write (Elt F) f w Finset.univ = w :=
  Memref.write_access_unit_zero_univ (Elt F) cc0_scratch2 hz2 _ f w
/-- A whole store into the result leaves what it stores. -/
theorem write_o (f w : (cc0_stg2_0 : Ref sig .tc).ty.Contents (Elt F)) :
    (oM.access (Rect.unit (s := S4096x64) ![0, 0] S4096x64.size inb_S4096x64_S4096x64_0_0)).write (Elt F) f w Finset.univ = w :=
  Memref.write_access_unit_zero_univ (Elt F) cc0_stg2_0 hz2 _ f w

/-- Slots at given contents are slots at some contents. -/
theorem qs_some (c : Dev nD) (f) : (bigSep Finset.univ fun d => qsPts (F := F) c d f) ⊢ bigSep Finset.univ fun d => iprop(∃ f, qsPts (F := F) c d f) :=
  bigSep_mono fun d _ => exists_intro (Φ := fun f => qsPts (F := F) c d f) f
/-- Received slices at given contents are received slices at some contents. -/
theorem qr_some (c : Dev nD) (f) : (bigSep Finset.univ fun d => qrPts (F := F) c d f) ⊢ bigSep Finset.univ fun d => iprop(∃ f, qrPts (F := F) c d f) :=
  bigSep_mono fun d _ => exists_intro (Φ := fun f => qrPts (F := F) c d f) f
/-- Received maxima at given contents are received maxima at some contents. -/
theorem ar_some (c : Dev nD) (f) : (bigSep Finset.univ fun d => arPts (F := F) c d f) ⊢ bigSep Finset.univ fun d => iprop(∃ f, arPts (F := F) c d f) :=
  bigSep_mono fun d _ => exists_intro (Φ := fun f => arPts (F := F) c d f) f

/-! ## The slices and the result -/

/-- A staged buffer of device `c` at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the second half starts from: the received maxima, the slots of the slices of every device, its positions, tokens and
credits. -/
def tailPre (c : Dev nD) : sProp 𝕄 :=
  iprop((((c : Thread nD τ).loc cc0_scratch3) ↦{fullShare} maxima m ρ) ∗ some' (F := F) c cc0_scratch0
    ∗ (bigSep Finset.univ fun d => iprop(∃ f, qrPts (F := F) d c f))
    ∗ Owes c (0 + dues (dueQ c) devs)
    ∗ (bigSep Finset.univ fun d => atPos ER (kcell (c, some (2, d))) 0 ∅ 0) ∗ (bigSep Finset.univ fun d => atPos ER (kcell (c, some (3, d))) 0 ∅ 0)
    ∗ (bigSep Finset.univ fun d => dutyTok ER (kcell (c, some (2, d))) 0 0) ∗ (bigSep Finset.univ fun d => dutyTok ER (kcell (d, some (3, c))) 0 0)
    ∗ (bigSep Finset.univ fun d => cred (tallyAt (kcell (c, some (3, d))) () NQ))
    ∗ some' (F := F) c cc0_stg2_0)

/-- What it ends with: the result, nothing owed, its cells closed. -/
def tailPost (c : Dev nD) : sProp 𝕄 :=
  iprop(some' (F := F) c cc0_scratch3 ∗ some' (F := F) c cc0_scratch0 ∗ some' (F := F) c cc0_scratch1 ∗ Owes c 0
    ∗ (bigSep Finset.univ fun d => semVal (kcell (c, some (2, d))) 0) ∗ (bigSep Finset.univ fun d => semVal (kcell (c, some (3, d))) 0)
    ∗ (((c : Thread nD τ).loc cc0_stg2_0) ↦{fullShare} outOf m ρ c))

/-- The slices of every device go out and come in, and the result is written. -/
theorem tail_runs (c : Dev nD) :
    iprop((records (bufs m ρ) K ∗ levAts L lv) ∗ tailPre m ρ c) ⊢ Runs c (tailOp (F := F) c (yOf m ρ c)) (fun _ => tailPost m ρ c) := by
  unfold tailPre tailOp
  simp only [Prog.lift, Prog.bind_op, Prog.bind_ret]
  iintro ⟨#Hrec, Hm, ⟨%f0, Hs⟩, Hd, HO, Hat2, Hat3, Ht2, Ht3, Hc3, ⟨%fo, Hout⟩⟩
  icases Hrec with ⟨#HR, #Hlev⟩
  iapply (wp_load 𝒱₀ (c : Thread nD τ) none Set.univ (m := arM) (Finset.subset_univ _)) $$ Hm; iintro Hm
  rw [read_ar]
  -- the slots filled
  ihave Hs' := (Entails.of_eq (qs_slots c f0)) $$ Hs
  iapply (runs_devs c iprop(emp) (fun _ => iprop(emp)) (fun d => iprop(∃ f, qsPts (F := F) c d f)) (fun d => qsPts c d ((bufs m ρ).snd c))
    (storeQOp (k0_pay5 (yOf m ρ c) (k0_pay4 (maxima m ρ)))) _ _
    (fun d l => storeQ_step (bufs m ρ) c d _ (fun _ => iprop(emp)) l rfl (access_slices m ρ c d))) $$ [Hs']
  · isplitr; · iempintro
    isplitr; · iempintro
    iapply (qs_some c f0); iexact Hs'
  iintro ⟨-, Hs⟩
  -- the transfers
  iapply (runs_devs c (records (bufs m ρ) K) (fun l => Owes c (0 + dues (dueQ c) l))
    (fun d => iprop(dutyTok ER (kcell (c, some (2, d))) 0 0 ∗ dutyTok ER (kcell (d, some (3, c))) 0 0 ∗ qsPts c d ((bufs m ρ).snd c) ∗ ∃ f, qrPts (F := F) d c f))
    (fun d => cred (tallyAt (kcell (c, some (2, d))) () NQ)) (sendQOp c) _ _
    (fun d l => sendQ_step (bufs m ρ) K (read_slices m ρ) c d 0 l)) $$ [HO Ht2 Ht3 Hs Hd]
  · isplitr; · iexact HR
    isplitl [HO]; · iexact HO
    simp only [bigSep_sep']
    isplitl [Ht2]; · iexact Ht2
    isplitl [Ht3]; · iexact Ht3
    isplitl [Hs] <;> iassumption
  rw [dues_nil]
  iintro ⟨HO, Hc2⟩
  -- their departures
  iapply (waits_loop K (bufs m ρ) c 2 waitQSOp 0 0 (fun d => Nat.le_refl 0) above_zero (waitQS_spec c)) $$ [HO Hat2 Hc2]
  · isplitr; · isplitr; · iexact HR
               iexact Hlev
    isplitl [HO]; · iexact HO
    simp only [bigSep_sep']
    isplitl [Hat2]; · iexact Hat2
    iexact Hc2
  simp only [bigSep_sep']
  iintro ⟨HO, Hz2, Hs⟩
  -- the arrivals
  iapply (waits_loop K (bufs m ρ) c 3 waitQROp 0 3 (fun d => Nat.le_refl 3) above_zero (waitQR_spec c)) $$ [HO Hat3 Hc3]
  · isplitr; · isplitr; · iexact HR
               iexact Hlev
    isplitl [HO]; · iexact HO
    simp only [bigSep_sep']
    isplitl [Hat3]; · iexact Hat3
    iexact Hc3
  simp only [bigSep_sep']
  iintro ⟨HO, Hz3, Hr⟩
  ihave Hs' := (Entails.of_eq (show (bigSep Finset.univ fun d => xferPay (bufs m ρ) c (2, d)) = _ from (qs_slots c (slicesOf m ρ c)).symm)) $$ Hs
  ihave Hr' := (Entails.of_eq (show (bigSep Finset.univ fun d => xferPay (bufs m ρ) c (3, d)) = _ from (qr_slots c (recvOf m ρ c)).symm)) $$ Hr
  -- the result
  unfold finOp
  simp only [Prog.lift, Prog.bind_op, Prog.bind_ret, Prog.pure_eq_ret]
  iapply (wp_load 𝒱₀ (c : Thread nD τ) none Set.univ (m := qrM) (Finset.subset_univ _)) $$ Hr'; iintro Hr
  rw [read_qr]
  iapply (wp_load 𝒱₀ (c : Thread nD τ) none Set.univ (m := oM) (Finset.subset_univ _)) $$ Hout; iintro Hout
  iapply (wp_store 𝒱₀ (c : Thread nD τ) none Set.univ (m := oM) (r := Rect.unit (s := S4096x64) ![0, 0] S4096x64.size inb_S4096x64_S4096x64_0_0) (Mk := Finset.univ) (Finset.subset_univ _)) $$ Hout; iintro Hout
  rw [write_o, wp_ret]; imodintro
  unfold tailPost
  isplitl [Hm]; · iexists maxima m ρ; iexact Hm
  isplitl [Hs']; · iexists slicesOf m ρ c; iexact Hs'
  isplitl [Hr]; · iexists recvOf m ρ c; iexact Hr
  isplitl [HO]; · iexact HO
  isplitl [Hz2]; · iexact Hz2
  isplitl [Hz3]; · iexact Hz3
  iexact Hout

/-! ## The maxima -/

/-- What the body starts from. -/
def bodyPre (c : Dev nD) : sProp 𝕄 :=
  iprop((linear (F := F) c ∗ creds (F := F) c ∗ scratch (F := F) c) ∗ Owes c (O₀ c)
    ∗ (((c : Thread nD τ).loc cc0_stg0_0) ↦{fullShare} xstg m ρ c) ∗ (((c : Thread nD τ).loc cc0_stg1_0) ↦{fullShare} wstg m ρ c)
    ∗ some' (F := F) c cc0_stg2_0)

/-- What it ends with. -/
def bodyPost (c : Dev nD) : sProp 𝕄 :=
  iprop(Φ₁ (F := F) c ∗ Owes c 0
    ∗ (((c : Thread nD τ).loc cc0_stg0_0) ↦{fullShare} xstg m ρ c) ∗ (((c : Thread nD τ).loc cc0_stg1_0) ↦{fullShare} wstg m ρ c)
    ∗ (((c : Thread nD τ).loc cc0_stg2_0) ↦{fullShare} outOf m ρ c))

/-- The maximum, in shares for the transfers. -/
theorem as_parted (c : Dev nD) : (((c : Thread nD τ).loc cc0_scratch2) ↦{fullShare} maxOf m ρ c : sProp 𝕄) ⊢ bigSep Finset.univ fun d => asPts c d ((bufs m ρ).lmax c) := by
  rw [as_shares]; dsimp only [bufs]; exact Entails.refl
/-- The shares of the maximum, come back, are the whole of it. -/
theorem as_joined (c : Dev nD) : (bigSep Finset.univ fun d => xferPay (bufs m ρ) c (0, d)) ⊢ (((c : Thread nD τ).loc cc0_scratch2) ↦{fullShare} maxOf m ρ c : sProp 𝕄) := by
  rw [as_shares]; unfold xferPay; dsimp only [bufs]; exact Entails.refl
/-- The slots of the maxima, filled by every device, are the array of the maxima. -/
theorem ar_joined (c : Dev nD) : (bigSep Finset.univ fun d => xferPay (bufs m ρ) c (1, d)) ⊢ (((c : Thread nD τ).loc cc0_scratch3) ↦{fullShare} maxima m ρ : sProp 𝕄) := by
  rw [ar_slots]; unfold xferPay; dsimp only [bufs]; exact Entails.refl

set_option maxHeartbeats 800000 in
/-- The body runs: every device's maximum goes out and comes in, then the slices. -/
theorem head_runs (c : Dev nD) :
    iprop((records (bufs m ρ) K ∗ levAts L lv) ∗ bodyPre m ρ c) ⊢ Runs c (rolled (F := F)) (fun _ => bodyPost m ρ c) := by
  unfold bodyPre rolled linear payToks creds scratch O₀
  rw [bigSep_SK]
  simp only [Prog.lift, Prog.bind_op, Prog.bind_ret]
  iintro ⟨#Hrec, ⟨⟨⟨HatB, Hat0, Hat1, Hat2, Hat3⟩, HtB, Ht0, Ht1, Ht2, Ht3⟩, ⟨HcB, Hc1, Hc3⟩, Hs, ⟨%fr, Hr⟩, ⟨%fa, Ha⟩, ⟨%fm, Hm⟩⟩, HO, Hx, Hw, Hout⟩
  icases Hrec with ⟨#HR, #Hlev⟩
  simp only [wp_deviceId]
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_x, read_w]
  iapply (wp_load 𝒱₀ (c : Thread nD τ) none Set.univ (m := asM) (Finset.subset_univ _)) $$ Ha; iintro Ha
  iapply (wp_store 𝒱₀ (c : Thread nD τ) none Set.univ (m := asM) (r := Rect.unit (s := S8x128) ![0, 0] S8x128.size inb_S8x128_S8x128_0_0) (Mk := Finset.univ) (Finset.subset_univ _)) $$ Ha; iintro Ha
  rw [write_as]
  -- the signals, with the slots of `c`
  ihave Hr' := ((Entails.of_eq (qr_slots c fr)).trans (qr_some c fr)) $$ Hr
  ihave Hm' := ((Entails.of_eq (ar_slots c fm)).trans (ar_some c fm)) $$ Hm
  iapply (runs_devs c (records (bufs m ρ) K) (fun l => Owes c (((0 + dues (dueQ c) devs) + dues (dueA c) devs) + dues dueB l))
    (fun d => iprop(dutyTok ER (kcell (d, none)) 0 c ∗ barPay (F := F) d c)) (fun d => iprop(emp)) sigOp _ _
    (fun d l => sig_step (bufs m ρ) K c d _ l)) $$ [HO HtB Hr' Hm']
  · isplitr; · iexact HR
    isplitl [HO]; · iexact HO
    unfold barPay
    simp only [bigSep_sep']
    isplitl [HtB]; · iexact HtB
    isplitl [Hm'] <;> iassumption
  rw [dues_nil]
  iintro ⟨HO, -⟩
  -- the wait at the barrier: the slots of every device; the barrier closed
  unfold Owes semWaitWord
  icases HO with ⟨%W, HO⟩
  ihave H := (rec_at (bufs m ρ) K (c, none)) $$ HR
  icases H with ⟨#HI, -⟩
  simp only [Prog.bind_op, Prog.bind_ret]
  iapply (Rounds.wp_wait_rest_token 𝒱₀ ER (rd (bufs m ρ)) (c : Thread nD τ) none (κ := K (c, none)) (sm := SemLoc.reg barS)
      (wpE_semWait_eq 𝒱₀ (c : Thread nD τ) none Set.univ) (Set.mem_univ _) () (O := (0 + dues (dueQ c) devs) + dues (dueA c) devs) (W := W) (R := 0) (m := 0) (T := ∅)
      ((by decide : 0 + (32#32).toInt.toNat = 32).trans (expect_bar (bufs m ρ) c).symm)) $$ [HcB HO HatB]
  · isplitr; · iexact HI
    isplitl [HcB]; · iexact HcB
    isplitl [HO]; · iexact HO
    isplitr; · iapply (mayWait c (SemLoc.reg barS) 1 (by rw [who_bar]; exact Nat.le_refl 1) _ (above_bar c)); iexact Hlev
    iexact HatB
  iintro ⟨HO, HatB, -, Hpay⟩
  ihave Hp := (Entails.of_eq (rest_bar (bufs m ρ) c)) $$ Hpay
  imod (Rounds.cell_close ER (rd (bufs m ρ)) (Set.mem_univ (K (c, none))) (fun h => h) (R := 0 + 1) (duties_later (bufs m ρ) (kcell (c, none)))) $$ [HatB] with HzB
  · isplitr; · iexact HI
    iexact HatB
  unfold barPay
  simp only [bigSep_sep']
  icases Hp with ⟨Hma, Hrq⟩
  -- the transfers of the maximum
  ihave Ha' := (show (View.loc (c : Thread nD τ) (asM.access (Rect.unit (s := S8x128) ![0, 0] S8x128.size inb_S8x128_S8x128_0_0))
      ↦{fullShare} k0_pay2 (F := F) (xstg m ρ c) (wstg m ρ c) : sProp 𝕄) ⊢ _ from as_parted m ρ c) $$ Ha
  iapply (runs_devs c (records (bufs m ρ) K) (fun l => Owes c ((0 + dues (dueQ c) devs) + dues (dueA c) l))
    (fun d => iprop(dutyTok ER (kcell (c, some (0, d))) 0 0 ∗ dutyTok ER (kcell (d, some (1, c))) 0 0 ∗ asPts c d ((bufs m ρ).lmax c) ∗ ∃ f, arPts (F := F) d c f))
    (fun d => cred (tallyAt (kcell (c, some (0, d))) () NA)) (sendAOp c) _ _
    (fun d l => sendA_step (bufs m ρ) K (read_amax m ρ) c d _ l)) $$ [HO Ht0 Ht1 Ha' Hma]
  · isplitr; · iexact HR
    isplitl [HO]; · unfold Owes; iexists _; iexact HO
    simp only [bigSep_sep']
    isplitl [Ht0]; · iexact Ht0
    isplitl [Ht1]; · iexact Ht1
    isplitl [Ha'] <;> iassumption
  rw [dues_nil]
  iintro ⟨HO, Hc0⟩
  -- their departures
  iapply (waits_loop K (bufs m ρ) c 0 waitASOp (0 + dues (dueQ c) devs) 2 (fun d => Nat.zero_le 2) (above_A c) (waitAS_spec c)) $$ [HO Hat0 Hc0]
  · isplitr; · isplitr; · iexact HR
               iexact Hlev
    isplitl [HO]; · iexact HO
    simp only [bigSep_sep']
    isplitl [Hat0]; · iexact Hat0
    iexact Hc0
  simp only [bigSep_sep']
  iintro ⟨HO, Hz0, Ha⟩
  -- the arrivals
  iapply (waits_loop K (bufs m ρ) c 1 waitAROp (0 + dues (dueQ c) devs) 2 (fun d => Nat.le_refl 2) (above_A c) (waitAR_spec c)) $$ [HO Hat1 Hc1]
  · isplitr; · isplitr; · iexact HR
               iexact Hlev
    isplitl [HO]; · iexact HO
    simp only [bigSep_sep']
    isplitl [Hat1]; · iexact Hat1
    iexact Hc1
  simp only [bigSep_sep']
  iintro ⟨HO, Hz1, Hm⟩
  ihave Ha' := (as_joined m ρ c) $$ Ha
  ihave Hm' := (ar_joined m ρ c) $$ Hm
  -- the slices
  iapply (wp_wand_r Idealize.ShloMosaic.frame (wpE (defs₀ (F := F)) 𝒱₀ (c : Thread nD τ) none) Set.univ)
  isplitl [Hm' Hs Hrq HO Hat2 Hat3 Ht2 Ht3 Hc3 Hout]
  · iapply (tail_runs m ρ K c)
    isplitr; · isplitr; · iexact HR
               iexact Hlev
    unfold tailPre
    isplitl [Hm']; · iexact Hm'
    isplitl [Hs]; · iexact Hs
    isplitl [Hrq]; · iexact Hrq
    isplitl [HO]; · iexact HO
    isplitl [Hat2]; · iexact Hat2
    isplitl [Hat3]; · iexact Hat3
    isplitl [Ht2]; · iexact Ht2
    isplitl [Ht3]; · iexact Ht3
    isplitl [Hc3]; · iexact Hc3
    iexact Hout
  unfold tailPost bodyPost Φ₁ scratch
  iintro %u ⟨H3, H0, H1, HO, Hz2, Hz3, Hout⟩
  rw [bigSep_SK]
  isplitl [H0 H1 Ha' H3 Hz0 Hz1 Hz2 Hz3 HzB]
  · isplitl [H0 H1 Ha' H3]
    · isplitl [H0]; · iexact H0
      isplitl [H1]; · iexact H1
      isplitl [Ha']; · iexists maxOf m ρ c; iexact Ha'
      iexact H3
    isplitl [Hz0 Hz1 Hz2 Hz3]
    · isplitl [Hz0]; · iexact Hz0
      isplitl [Hz1]; · iexact Hz1
      isplitl [Hz2] <;> iassumption
    iexact HzB
  isplitl [HO]; · iexact HO
  isplitl [Hx]; · iexact Hx
  isplitl [Hw] <;> iassumption

end Cert.KernelIdeal.Hand

end
-- ==== Proof.Obligation.lean ====
module

public import proofs.«01_k».proof.Proof.Body

/-! # The pipeline's obligation

The pipeline's one step is the exchange: it is met from `head_runs`. -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the pipeline hands to the body. -/
def obPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What it awaits back. -/
def obPost (c : Dev nD) : sProp 𝕄 :=
  iprop(Φ₁ (F := F) c ∗ (dats m ρ 0 c).owesAt () t0_0.succ
    ∗ stg c cc0_stg0_0 (xstg m ρ c) ∗ stg c cc0_stg1_0 (wstg m ρ c) ∗ stg c cc0_stg2_0 (outOf m ρ c))

/-- The inputs staged are the blocks of the arrays. -/
theorem before_x (c : Dev nD) (d) : (dats m ρ 0 c).before (0 : Fin 3) t0_0 d = xstg m ρ c := by
  unfold Dat.before; rw [if_pos (fetch0_0 t0_0)]; rfl
/-- The staged `w` is the whole array. -/
theorem before_w (c : Dev nD) (d) : (dats m ρ 0 c).before (1 : Fin 3) t0_0 d = wstg m ρ c := by
  unfold Dat.before; rw [if_pos (fetch0_1 t0_0)]; rfl

/-- The exchange meets the pipeline's demand. -/
theorem obligation_runs (c : Dev nD) : obPre m ρ c ⊢ Runs c (rolled (F := F)) (fun _ => obPost m ρ c) := by
  unfold obPre Φ₀ start ghost stg Dat.owesAt Pipeline.owesWithin
  iintro ⟨⟨⟨⟨%K, ⟨Hrec, Hlin⟩⟩, Hcr, Hlev⟩, Hscr⟩, ⟨%W, -, HO⟩, ⟨%dx, ⟨%fx, %hx, Hx⟩⟩, ⟨%dw, ⟨%fw, %hw, Hw⟩⟩, ⟨%dO, ⟨%fo, %ho, Hout⟩⟩⟩
  subst hx; subst hw
  rw [before_x, before_w]
  iapply (wp_wand_r Idealize.ShloMosaic.frame (wpE (defs₀ (F := F)) 𝒱₀ (c : Thread nD τ) none) Set.univ)
  isplitl
  · iapply (head_runs m ρ K c)
    unfold bodyPre
    isplitl [Hrec Hlev]
    · isplitl [Hrec] <;> iassumption
    isplitl [Hlin Hcr Hscr]
    · isplitl [Hlin]; · iexact Hlin
      isplitl [Hcr] <;> iassumption
    isplitl [HO]; · unfold Owes; iexists W; iexact HO
    isplitl [Hx]; · iexact Hx
    isplitl [Hw]; · iexact Hw
    iexists fo; iexact Hout
  unfold bodyPost obPost Owes stg Dat.owesAt Pipeline.owesWithin
  iintro %u ⟨H1, ⟨%W', HO⟩, Hx, Hw, Hout⟩
  isplitl [H1]; · iexact H1
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 40000 in
/-- The pipeline's obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show obPre m ρ c ⊢ wp Idealize.ShloMosaic.frame (wpE (defs₀ (F := F)) 𝒱₀ (c : Thread nD τ) none) Set.univ (bodyAt0 (F := F) t0_0) (fun _ => obPost m ρ c)
  rw [body_eq_rolled]
  exact obligation_runs m ρ c

end Cert.KernelIdeal.Hand

end
-- ==== Proof.Deal.lean ====
module

public import proofs.«01_k».proof.Proof.Obligation

/-! # The launch: the cells, their tokens, the credits

What the machine grants at launch is dealt to the devices: every device its own cells, and the tokens it pays with. -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The pipeline's semaphores are no cells of the exchange. -/
theorem staged_no_cell (w : Fin cfg0.W) (s : Fin (cfg0.spec w).nbuf) : who (.dma ((cfg0.spec w).sem s)) = none := by
  revert w s; decide +kernel

/-- The kernel's own semaphores are scoped, distinct and none of the pipeline's. -/
theorem ownSemFacts : Pipeline.OwnSemFacts cfg0.spec osem where
  isScoped k := by revert k; decide +kernel
  inj k k' h := Option.some.inj (Option.some.inj ((who_osem k).symm.trans ((congrArg who h).trans (who_osem k'))))
  disj k w s := fun h => by
    have h1 : who (.dma ((cfg0.spec w).sem s)) = none := staged_no_cell w s
    have h2 := who_osem k
    rw [h, h1] at h2
    cases h2

/-- Distinct names, distinct cells. -/
theorem kcell_injective : Function.Injective (kcell : Dev nD × Option SK → GSem nD τ sig) := by
  rintro ⟨c, k⟩ ⟨c', k'⟩ h
  have h1 : c = c' := congrArg (fun g : GSem nD τ sig => g.1.1) h
  have h2 : csem k = csem k' := congrArg Prod.snd h
  have h3 : k = k' := Option.some.inj ((who_csem k).symm.trans ((congrArg who h2).trans (who_csem k')))
  rw [h1, h3]

/-- All cells. -/
def xCells : Finset (GSem nD τ sig) := Finset.univ.map ⟨kcell, kcell_injective⟩

/-- A token of a device's own cells: its barrier's for every device, and one at each transfer cell. -/
def tokOf (x : Dev nD × (Fin 5 × Dev nD)) : GSem nD τ sig × ℕ × Dev nD := match x.2.1 with
  | 0 => (kcell (x.1, none), 0, x.2.2)
  | 1 => (kcell (x.1, some (0, x.2.2)), 0, 0)
  | 2 => (kcell (x.1, some (1, x.2.2)), 0, 0)
  | 3 => (kcell (x.1, some (2, x.2.2)), 0, 0)
  | 4 => (kcell (x.1, some (3, x.2.2)), 0, 0)

/-- Which token a triple is. -/
def tokBack (t : GSem nD τ sig × ℕ × Dev nD) : Dev nD × (Fin 5 × Dev nD) := (t.1.1.1, match who t.1.2 with
  | some none => (0, t.2.2)
  | some (some (k, d)) => (k.succ, d)
  | none => (0, 0))

/-- Distinct tokens, distinct triples. -/
theorem tokOf_injective : Function.Injective tokOf := by
  refine Function.LeftInverse.injective (g := tokBack) fun x => ?_
  obtain ⟨c, k, d⟩ := x
  match k with
  | 0 => unfold tokOf tokBack; dsimp only; rw [who_bar]
  | 1 => unfold tokOf tokBack; dsimp only; rw [who_osem]; rfl
  | 2 => unfold tokOf tokBack; dsimp only; rw [who_osem]; rfl
  | 3 => unfold tokOf tokBack; dsimp only; rw [who_osem]; rfl
  | 4 => unfold tokOf tokBack; dsimp only; rw [who_osem]; rfl

/-- All tokens. -/
def xToks : Finset (GSem nD τ sig × ℕ × Dev nD) := Finset.univ.map ⟨tokOf, tokOf_injective⟩

/-- What the launch makes: the pipeline's ghost state and the exchange's. -/
def u₀ : UU := (initOf (Pipeline.cells cfgs cellOf_inj) (Pipeline.launchToks cfgs cellOf_inj), initOf xCells xToks)

/-- The tokens of device `c`'s own cells. -/
def toks (c : Dev nD) : sProp 𝕄 :=
  iprop((bigSep Finset.univ fun d => dutyTok ER (kcell (c, none)) 0 d)
    ∗ (bigSep Finset.univ fun d => dutyTok ER (kcell (c, some (0, d))) 0 0) ∗ (bigSep Finset.univ fun d => dutyTok ER (kcell (c, some (1, d))) 0 0)
    ∗ (bigSep Finset.univ fun d => dutyTok ER (kcell (c, some (2, d))) 0 0) ∗ (bigSep Finset.univ fun d => dutyTok ER (kcell (c, some (3, d))) 0 0))

/-- What the launch deals to device `c`. -/
def G (c : Dev nD) : sProp 𝕄 :=
  iprop((bigSep Finset.univ fun k : Option SK => roundState ER (rd (bufs m ρ)) (kcell (c, k)) 0)
    ∗ (bigSep Finset.univ fun k : Option SK => iprop(atPos ER (kcell (c, k)) 0 ∅ 0 ∗ reached ER (kcell (c, k)) 0)) ∗ toks (F := F) c)

/-- What the devices make of it together. -/
def G' (c : Dev nD) : sProp 𝕄 := iprop(∃ K, ghost m ρ K c)

/-- Five pieces, one by one. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A piece for each cell of a device: its barrier's and its transfer cells'. -/
theorem bigSep_opt (Φ : Option SK → sProp 𝕄) : bigSep Finset.univ Φ = iprop(Φ none ∗ bigSep Finset.univ fun k : SK => Φ (some k)) := by
  rw [bigSep_univ_at Φ none, show (Finset.univ.erase (none : Option SK)) = Finset.univ.map Function.Embedding.some from ?_, BI.bigSep_map]
  · rfl
  · ext k; cases k <;> simp

/-- The tokens made, device by device. -/
theorem toks_dealt : bigSep xToks (fun x => (dutyTok ER x.1 x.2.1 x.2.2 : sProp 𝕄)) = bigSep Finset.univ fun c : Dev nD => toks (F := F) c := by
  unfold xToks; rw [BI.bigSep_map, bigSep_univ_prod]
  exact bigSep_congr fun c _ => by unfold toks; rw [bigSep_univ_prod, bigSep_fin5]; rfl

/-- The cells made, device by device. -/
theorem cells_dealt (Φ : GSem nD τ sig → sProp 𝕄) :
    bigSep xCells Φ = bigSep Finset.univ fun c : Dev nD => bigSep Finset.univ fun k : Option SK => Φ (kcell (c, k)) := by
  unfold xCells; rw [BI.bigSep_map, bigSep_univ_prod]; rfl

/-- The launch's ghost state is dealt. -/
theorem fund_ring : BI.own (ER (initOf xCells xToks)) ⊢ (|==> bigSep Finset.univ (G m ρ) : sProp 𝕄) := by
  iintro HX
  imod (Rounds.fund ER (rd (bufs m ρ)) xCells xToks) $$ HX with ⟨Hst, Hr, Hat, Htok⟩
  imodintro
  ihave Hst' := (Entails.of_eq (cells_dealt fun g => roundState ER (rd (bufs m ρ)) g 0)) $$ Hst
  ihave Hat' := (Entails.of_eq (cells_dealt (F := F) fun g => atPos ER g 0 ∅ 0)) $$ Hat
  ihave Hr' := (Entails.of_eq (cells_dealt (F := F) fun g => reached ER g 0)) $$ Hr
  ihave Htok' := (Entails.of_eq (toks_dealt (F := F))) $$ Htok
  unfold G; simp only [bigSep_sep']
  isplitl [Hst']; · iexact Hst'
  isplitl [Hat' Hr']
  · isplitl [Hat'] <;> iassumption
  iexact Htok'

/-- The barrier's semaphore is the one outside the kernel's scope. -/
theorem unscopedSems0_eq (c : Dev nD) : (unscopedSems0 c : sProp 𝕄) = semVal (kcell (c, none)) 0 := by
  unfold unscopedSems0; rw [bigSep_eq_bigSepL_of_eq [SemLoc.reg barS] (by decide +kernel) (by decide)]; rfl

/-- The counters of a device's cells at launch. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option SK => semVal (kcell (c, k)) 0 : sProp 𝕄) := by
  rw [unscopedSems0_eq, bigSep_opt]
  unfold Pipeline.ownSems0
  iintro ⟨HS, HB⟩
  isplitl [HB]; · iexact HB
  iexact HS

/-- A device's cells come under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd (bufs m ρ)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Option SK => semVal (kcell (c, k)) 0) ∗ bigSep Finset.univ fun k : Option SK => roundState ER (rd (bufs m ρ)) (kcell (c, k)) 0)
      ⊢ (|={Set.univ}=> bigSep Finset.univ fun k => iprop(∃ κ : ℕ, cellInv ER (rd (bufs m ρ)) κ (kcell (c, k))) : sProp 𝕄) from by
        rw [← bigSep_sep']
        exact (bigSep_mono fun k _ => (Rounds.body_intro ER (rd (bufs m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Pieces for pairs of devices, in the other order. -/
theorem bigSep_flip (Φ : Dev nD → Dev nD → sProp 𝕄) :
    (bigSep Finset.univ fun c => bigSep Finset.univ fun d => Φ c d) = bigSep Finset.univ fun d => bigSep Finset.univ fun c => Φ c d := by
  rw [← bigSep_univ_prod (fun x : Dev nD × Dev nD => Φ x.1 x.2), bigSep_univ_equiv (Equiv.prodComm (Dev nD) (Dev nD)), bigSep_univ_prod]; rfl

/-- The tokens go to the devices that pay with them. -/
theorem toks_around : (bigSep Finset.univ fun c : Dev nD => (toks (F := F) c : sProp 𝕄)) ⊢ bigSep Finset.univ fun c : Dev nD => payToks (F := F) c := by
  unfold toks payToks
  simp only [bigSep_sep']
  rw [bigSep_flip (fun c d : Dev nD => (dutyTok ER (kcell (c, none)) 0 d : sProp 𝕄)),
    bigSep_flip (fun c d : Dev nD => (dutyTok ER (kcell (c, some (1, d))) 0 0 : sProp 𝕄)),
    bigSep_flip (fun c d : Dev nD => (dutyTok ER (kcell (c, some (3, d))) 0 0 : sProp 𝕄))]

/-- A persistent fact is had at each piece. -/
theorem bigSep_with {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-- Positions and tokens are what stays with a device. -/
theorem linear_intro :
    iprop((bigSep Finset.univ fun c : Dev nD => bigSep Finset.univ fun k : Option SK => atPos ER (kcell (c, k)) 0 ∅ 0) ∗ bigSep Finset.univ fun c : Dev nD => payToks (F := F) c)
      ⊢ (bigSep Finset.univ fun c : Dev nD => linear (F := F) c : sProp 𝕄) := by
  rw [← bigSep_sep']
  exact bigSep_mono fun c _ => show _ ⊢ linear (F := F) c from Entails.of_eq (by unfold linear; rw [bigSep_opt])

/-- The invariants' names are fixed for all devices; each device keeps its positions and its tokens. -/
theorem regroup :
    (bigSep Finset.univ fun c : Dev nD => iprop((bigSep Finset.univ fun k => iprop(∃ κ : ℕ, cellInv ER (rd (bufs m ρ)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Option SK => iprop(∃ κ : ℕ, cellInv ER (rd (bufs m ρ)) κ (kcell ck))),
    bigSep_congr (s := Finset.univ) (fun (c : Dev nD) _ => bigSep_sep' Finset.univ (fun k : Option SK => (atPos ER (kcell (c, k)) 0 ∅ 0 : sProp 𝕄)) (fun k => reached ER (kcell (c, k)) 0)),
    bigSep_sep', ← bigSep_univ_prod (fun ck : Dev nD × Option SK => (reached ER (kcell ck) 0 : sProp 𝕄))]
  iintro ⟨HI, ⟨Hat, #HR⟩, Htok⟩
  ihave HK := (BI.bigSep_exists_pi Finset.univ (fun (ck : Dev nD × Option SK) (κ : ℕ) => (cellInv ER (rd (bufs m ρ)) κ (kcell ck) : sProp 𝕄))) $$ HI
  icases HK with ⟨%K, #HI⟩
  ihave Htk := (toks_around (F := F)) $$ Htok
  iapply (bigSep_with (R := records (bufs m ρ) K) (Φ := fun c => linear (F := F) c) fun c => show _ ⊢ G' m ρ c from by
    unfold G' ghost; iintro H; iexists K; iexact H)
  isplitr
  · unfold records; isplitl; · iexact HI
    iexact HR
  · iapply (linear_intro (F := F))
    isplitl [Hat]; · iexact Hat
    iexact Htk

/-- The devices' step together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- What a sum of dues owes at a cell. -/
theorem dues_apply (f : Dev nD → CellTallies nD τ sig Unit) (g : GSem nD τ sig) (u : Unit) (l : List (Dev nD)) (hl : l.Nodup) :
    dues f l g u = ∑ d ∈ l.toFinset, f d g u := by
  induction l with
  | nil => rfl
  | cons d l ih =>
    have hd := List.nodup_cons.mp hl
    rw [List.toFinset_cons, Finset.sum_insert (by rw [List.mem_toFinset]; exact hd.1), ← ih hd.2, add_comm]; rfl

/-- Over all devices. -/
theorem dues_devs (f : Dev nD → CellTallies nD τ sig Unit) (g : GSem nD τ sig) (u : Unit) : dues f devs g u = ∑ d, f d g u := by
  rw [dues_apply f g u devs devs_nodup]
  exact Finset.sum_congr (Finset.ext fun d => ⟨fun _ => Finset.mem_univ _, fun _ => List.mem_toFinset.mpr (mem_devs d)⟩) fun _ _ => rfl

/-- A single due at a cell. -/
theorem due_at (c d : Dev nD) (k k' : Option SK) (n : ℕ) : tallyAt (kcell (d, k')) () n (kcell (c, k)) () = if c = d ∧ k = k' then n else 0 := by
  rw [tallyAt_apply]
  by_cases h : c = d ∧ k = k'
  · obtain ⟨rfl, rfl⟩ := h; rw [if_pos ⟨rfl, rfl⟩, if_pos ⟨rfl, rfl⟩]
  · rw [if_neg h, if_neg fun h' => h (by have := kcell_injective h'.1; exact ⟨congrArg Prod.fst this, congrArg Prod.snd this⟩)]

/-- Dues at one cell of every device, summed at a cell of `c`. -/
theorem dues_at (c : Dev nD) (k k' : Option SK) (n : ℕ) : dues (fun d => tallyAt (kcell (d, k')) () n) devs (kcell (c, k)) () = if k = k' then n else 0 := by
  rw [dues_devs, Finset.sum_congr rfl fun d _ => due_at c d k k' n]
  by_cases h : k = k'
  · subst h
    simp
  · simp [h]

/-- What device `d` owes at a cell of `c`. -/
theorem owed_at (c d : Dev nD) (k : Option SK) :
    O₀ d (kcell (c, k)) () = (if k = some (3, d) then NQ else 0) + (if k = some (1, d) then NA else 0) + (if k = none then 1 else 0) := by
  unfold O₀
  rw [Pi.add_apply, Finsupp.add_apply, Pi.add_apply, Finsupp.add_apply, Pi.add_apply, Finsupp.add_apply]
  rw [dues_at c k none 1, dues_at c k (some (1, d)) NA, dues_at c k (some (3, d)) NQ]
  rw [Pi.zero_apply, Finsupp.zero_apply, Nat.zero_add]

/-- The launch's credit at a barrier cell is all devices' signals; -/
theorem launch_bar (c : Dev nD) :
    tallyOn (kcell (c, none)) (launchCredit (Pipeline.owing O₀) 0 (kcell (c, none))) = (tallyAt (kcell (c, none)) () 32 : CellTallies nD τ sig Unit) := by
  unfold tallyAt; refine congrArg _ (Finsupp.ext fun u => ?_); cases u
  rw [Pipeline.launchCredit_owing, Finsupp.single_eq_same, Finset.sum_congr rfl fun d _ => owed_at c d none]
  simp
/-- at an arrival cell, what its peer sends. -/
theorem launch_ar (c j : Dev nD) :
    tallyOn (kcell (c, some (1, j))) (launchCredit (Pipeline.owing O₀) 0 (kcell (c, some (1, j)))) = (tallyAt (kcell (c, some (1, j))) () NA : CellTallies nD τ sig Unit) := by
  unfold tallyAt; refine congrArg _ (Finsupp.ext fun u => ?_); cases u
  rw [Pipeline.launchCredit_owing, Finsupp.single_eq_same, Finset.sum_congr rfl fun d _ => owed_at c d (some (1, j))]
  simp
/-- At the arrival cell of a slice, what its peer sends. -/
theorem launch_qr (c j : Dev nD) :
    tallyOn (kcell (c, some (3, j))) (launchCredit (Pipeline.owing O₀) 0 (kcell (c, some (3, j)))) = (tallyAt (kcell (c, some (3, j))) () NQ : CellTallies nD τ sig Unit) := by
  unfold tallyAt; refine congrArg _ (Finsupp.ext fun u => ?_); cases u
  rw [Pipeline.launchCredit_owing, Finsupp.single_eq_same, Finset.sum_congr rfl fun d _ => owed_at c d (some (3, j))]
  simp

/-- The semaphores of a device's cells. -/
def cellSems : Option SK ↪ SemLoc sig := ⟨csem, fun k k' h => Option.some.inj ((who_csem k).symm.trans ((congrArg who h).trans (who_csem k')))⟩

/-- The credits of a device's cells are what it starts with. -/
theorem creds_of (c : Dev nD) : (bigSep Finset.univ fun k : Option SK => cred (tallyOn (kcell (c, k)) (launchCredit (Pipeline.owing O₀) 0 (kcell (c, k)))) : sProp 𝕄)
    ⊢ creds (F := F) c := by
  rw [bigSep_opt, bigSep_SK, launch_bar]
  unfold creds
  simp only [launch_ar, launch_qr]
  iintro ⟨HB, -, H1, -, H3⟩
  isplitl [HB]; · iexact HB
  isplitl [H1] <;> iassumption

/-- The credits a device starts with are in the launch's. -/
theorem creds_intro (c : Dev nD) : (Pipeline.launchCred O₀ c : sProp 𝕄) ⊢ creds (F := F) c :=
  (BI.bigSep_subset (Finset.subset_univ (Finset.univ.map cellSems))).trans ((Entails.of_eq (BI.bigSep_map _)).trans (creds_of c))

end Cert.KernelIdeal.Hand

end
-- ==== Proof.Run.lean ====
module

public import Idealize.ShloMosaic.Lib.Pipeline.CollectiveSegs
public import proofs.«01_k».proof.Proof.Deal

/-! # The run

Every device runs the exchange to its end: the arguments are kept, the result is written, every counter is at zero. -/

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every window is held at the full share. -/
theorem share_eq (c : Dev nD) (w : Fin cfg0.W) : (dats m ρ 0 c).share w = fullShare := by unfold Dat.share; split <;> rfl

/-- What a device starts from is made of what the launch deals it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

/-- With the scratch buffers, it is what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What the body ends with goes back: the counters at zero, the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ scratch Pipeline.ownSems0
  iintro ⟨Hr, Hz, HzB⟩
  isplitl [HzB]; · iexact HzB
  isplitl [Hz]; · iexact Hz
  iexact Hr

/-- The pipeline's own waits are allowed: its semaphores are at the lowest level. -/
theorem waits (c : Dev nD) : (levAts L lv : sProp 𝕄) ⊢ Pipeline.cellsWaits cfgs (dats m ρ) () 0 c :=
  Pipeline.cellsWaits_intro cfgs (dats m ρ) () 0 c fun w s t =>
    mayWait c _ 0 (le_of_eq (congrArg lvOf (staged_no_cell w s))) _ (by
      rcases t with ⟨_ | _, ht⟩
      · exact above_O₀ c
      · exact above_zero)

/-- What an array holds at the end. -/
def finalA (c : Dev nD) (w : Fin cfg0.W) : Buf (Elt F) ((cfg0.win w).arr.view.loc (c : Thread nD τ)) := (dats m ρ 0 c).arrAt w cfg0.N

set_option maxRecDepth 100000 in
/-- Every device's arrays at the end, and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are kept. -/
theorem finalA_x (c : Dev nD) : finalA m ρ c (0 : Fin 3) = m ((c : Thread nD τ).loc main_arg0) := (dats (F := F) m ρ 0 c).arrAt_in (0 : Fin 3) rfl _
/-- The second argument is kept. -/
theorem finalA_w (c : Dev nD) : finalA m ρ c (1 : Fin 3) = m ((c : Thread nD τ).loc main_arg1) := (dats (F := F) m ρ 0 c).arrAt_in (1 : Fin 3) rfl _

/-- The arguments kept, every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = finalA m ρ c (2 : Fin 3)) ∧ r.2.sem = fun _ => 0) :=
  (θ_run defs _ _).mono (fun r h => ⟨fun c => ⟨(h.1 c (0 : Fin 3)).trans (finalA_x m ρ c), (h.1 c (1 : Fin 3)).trans (finalA_w m ρ c), h.1 c (2 : Fin 3)⟩, h.2⟩)
    (run_arrays m ρ)

end Cert.KernelIdeal.Hand

end
-- ==== Proof.Frames.lean ====
module

public import proofs.«01_k».proof.Proof.Run
public import proofs.«01_k».proof.Proof.Gen.Kernel
public import proofs.«01_k».proof.Proof.Gen.ReferenceIdeal.Frame
public import proofs.«01_k».proof.Defs

/-! # The frames

The kernel's run is made once, for any float values. It gives the frame of the kernel and of the ideal kernel. -/

@[expose] public section

namespace Cert.Hand

open Idealize.ShloMosaic Idealize.ShloMosaic.TcCoe

/-- Over any float values the kernel keeps its arguments and ends with every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Hand.run_main m ρ)

/-- The ideal kernel's frame. -/
theorem frame_ideal : @Cert.quiescent_KernelIdeal Cert.KernelIdeal.Gen.facts := fun m ρ _ => frame_any (F := Ideal) m ρ

set_option maxRecDepth 100000 in
/-- The two programs have the same kernel bodies, -/
theorem defs0_eq {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

set_option maxRecDepth 100000 in
/-- so the same definitions. -/
theorem defs_eq {F : FTy → Type} [FloatOps F] :
    @Cert.Kernel.defs F _ Cert.Kernel.Gen.facts = @Cert.KernelIdeal.defs F _ Cert.KernelIdeal.Gen.facts :=
  congrArg (Pipeline.defs (@Cert.KernelIdeal.pcfgs F Cert.KernelIdeal.Gen.facts)) defs0_eq

set_option maxRecDepth 100000 in
/-- The frame of the kernel over machine floats. -/
theorem frame_kernel : @Cert.quiescent_Kernel Cert.Kernel.Gen.facts := fun m ρ _ => by
  rw [defs_eq]
  exact frame_any (F := Bits) m ρ

/-- The reference's frame. -/
theorem frame_reference : @Cert.quiescent_ReferenceIdeal Cert.ReferenceIdeal.Gen.facts := fun m ρ _ => Cert.ReferenceIdeal.Gen.frame m ρ

end Cert.Hand

end
-- ==== Proof.Math.lean ====
/-
  The arithmetic of the quantiser on the extended reals, and the two programs' maxima as suprema: a maximum of a whole array
  is the supremum of its entries, and for a non-negative entry and scale the kernel's saturated product with the reciprocal
  scale and the reference's clipped quotient, scaled back, agree.
-/
module

public import Idealize.ShloMosaic.PureOps.Ideal
public import Idealize.ShloMosaic.PureOps.Ideal.Laws
public import Idealize.ShloMosaic.PureOps.Reduce
public import Idealize.ShloMosaic.Lib.IdealHost
public import Idealize.ShloMosaic.Lib.Layout
public import Idealize.ShloMosaic.Lib.Pointwise

@[expose] public section

noncomputable section

namespace Cert.Hand

open Idealize.ShloMosaic

/-- An entry of the product of two arrays, clipped below at zero. -/
def clipped {n : Nat} (x : (⟨2, ![n, 4096]⟩ : Shape).Idx → EReal) (w : (⟨2, ![4096, 2048]⟩ : Shape).Idx → EReal)
    (r : Fin n) (l : Fin 2048) : EReal := max (∑ k : Fin 4096, x (ix2 r k) * w (ix2 k l)) 0

/-- It is non-negative. -/
theorem clipped_nonneg {n : Nat} (x : (⟨2, ![n, 4096]⟩ : Shape).Idx → EReal) (w : (⟨2, ![4096, 2048]⟩ : Shape).Idx → EReal)
    (r : Fin n) (l : Fin 2048) : 0 ≤ clipped x w r l := le_max_right _ _

/-- The pattern every maximum starts from is minus infinity. -/
theorem ofBits_bottom : Ideal.ofBits .f32 0xFF800000#32 = ⊥ := by
  simp [Ideal.ofBits, Ideal.ieee]

/-- The saturation bound is 448, -/
theorem ofBits_448 : Ideal.ofBits .f32 0x43E00000#32 = ((448 : ℝ) : EReal) := by
  simp [Ideal.ofBits, Ideal.ieee]; norm_num; rw [← EReal.coe_mul]; norm_num

/-- and its negative is no more than zero. -/
theorem ofBits_neg_448 : Ideal.ofBits .f32 0xC3E00000#32 ≤ 0 := by
  have h : Ideal.ofBits .f32 0xC3E00000#32 = ((-448 : ℝ) : EReal) := by
    simp [Ideal.ofBits, Ideal.ieee]; norm_num; rw [← EReal.coe_mul]; norm_num
  rw [h]; exact_mod_cast (by norm_num : (-448 : ℝ) ≤ 0)

/-- A maximum folded from minus infinity is the supremum. -/
theorem fold_max {ι : Type} [Fintype ι] (x : ι → EReal) : (Finset.univ : Finset ι).fold max ⊥ x = ⨆ i, x i :=
  Finset.sup_univ_eq_iSup x

/-- The kernel's maximum over all axes that matter is the supremum of all entries. -/
theorem multiReduction_max_total {s t : Shape} {axes : List (Fin s.rank)} (x : FVec Ideal s .f32) (h : s.Reduces axes t)
    (ht : ∀ b, t.size b = 1) (hφ : FKind.Formats .f32) (hacc : (0xFF800000#32 : BitVec 32) = FKind.maximumf.neutral .f32 hφ) (j : t.Idx) :
    multiReduction .maximumf axes t x 0xFF800000#32 h hφ hacc j = ⨆ i, x i := by
  rw [multiReduction_maximumf_eq_fold, Finset.filter_true_of_mem fun i _ => funext fun b => Fin.ext (by
    have := (h.drop i b).isLt; have := (j b).isLt; have := ht b; omega)]
  exact (congrArg (fun b => (Finset.univ : Finset s.Idx).fold max b x) ofBits_bottom).trans (fold_max x)

/-- So is the host's. -/
theorem hostReduce_max_total {s t u : Shape} {axes : List (Fin s.rank)} (x : FVec Ideal s .f32) (init : FVec Ideal u .f32)
    (h : s.ReducesTo axes t) (ht : ∀ b, t.size b = 1) (hu : 0 < u.numel) (hi : ∀ i, init i = Ideal.ofBits .f32 0xFF800000#32) (j : t.Idx) :
    Host.reduce (FloatOps.maximumf (F := Ideal) (φ := .f32)) x init h hu j = ⨆ i, x i := by
  rw [Host.reduce_eq_fold, Finset.filter_true_of_mem fun i _ => funext fun b => Fin.ext (by
    have := (h.drop i b).isLt; have := (j b).isLt; have := ht b; omega)]
  exact (congrArg (fun b => (Finset.univ : Finset s.Idx).fold max b x) ((hi _).trans ofBits_bottom)).trans (fold_max x)

/-- A shape cast keeps the supremum. -/
theorem iSup_shapeCast {s t : Shape} (x : s.Idx → EReal) (h : s.ShapeCasts t) : ⨆ i, shapeCast t x h i = ⨆ i, x i :=
  (Shape.reshapeEquiv h).iSup_comp (g := x)

/-- The absolute value of a non-negative entry is the entry. -/
theorem abs_of_nonneg {y : EReal} (h : 0 ≤ y) : max y (-y) = y :=
  max_eq_left ((EReal.neg_le_zero.mpr h).trans h)

/-- A quotient by 448 is non-negative with its numerator. -/
theorem scale_nonneg {a : EReal} (h : 0 ≤ a) : 0 ≤ Ideal.div a (Ideal.ofBits .f32 0x43E00000#32) := by
  have h448 : (0 : EReal) ≤ ((448 : ℝ) : EReal) := by exact_mod_cast (by norm_num : (0 : ℝ) ≤ 448)
  have hne : ((448 : ℝ) : EReal) ≠ 0 := by exact_mod_cast (by norm_num : (448 : ℝ) ≠ 0)
  rw [ofBits_448, Ideal.div, if_neg hne]
  exact mul_nonneg h (EReal.inv_nonneg_of_nonneg h448)

/-- The reciprocal scale the kernel multiplies by: zero at the scale zero. -/
def recip (s : EReal) : EReal := if 0 < s then Ideal.div 1 s else 0

/-- The kernel's quantiser and the reference's, of a non-negative entry at a non-negative scale: the product with the
    reciprocal, saturated at 448 and scaled back, is the quotient, clipped at 448 in absolute value and scaled back. At the
    scale zero both are zero. -/
theorem quant_eq {y s : EReal} (hy : 0 ≤ y) (hs : 0 ≤ s) :
    min (y * recip s) (Ideal.ofBits .f32 0x43E00000#32) * s
      = min (Ideal.ofBits .f32 0x43E00000#32) (max (Ideal.ofBits .f32 0xC3E00000#32) (Ideal.div y s)) * s := by
  rcases hs.eq_or_lt with rfl | hs'
  · rw [mul_zero, mul_zero]
  · have hd : Ideal.div y s = y * s⁻¹ := if_neg hs'.ne'
    have hr : recip s = s⁻¹ := by rw [recip, if_pos hs', Ideal.div, if_neg hs'.ne', one_mul]
    have h0 : 0 ≤ y * s⁻¹ := mul_nonneg hy (EReal.inv_nonneg_of_nonneg hs)
    rw [hd, hr, max_eq_right (ofBits_neg_448.trans h0), min_comm]

end Cert.Hand

end
-- ==== Proof.KernelValue.lean ====
module

public import proofs.«01_k».proof.Proof.Run
public import proofs.«01_k».proof.Proof.Math
public import Idealize.ShloMosaic.Lib.Pipeline.Value
public import Idealize.ShloMosaic.Lib.Pointwise

/-! # What the kernel leaves on the extended reals

The result array of device `c` entry by entry, as a function of the memory at launch. -/

@[expose] public section

noncomputable section

namespace Cert.KernelIdeal.Hand

open Cert.KernelIdeal Cert.KernelIdeal.Gen
open Idealize.ShloMosaic Idealize.ShloMosaic.TcCoe
open Idealize.SL Idealize.SL.Sem

section Any

variable {F : FTy → Type} [FloatOps F]
variable (m : (ℓ : Loc nD τ sig) → Buf (Elt F) ℓ) (ρ : Dev nD → PrngReg)

/-- The staged inputs are the argument arrays: each window is its whole array. -/
theorem xstg_eq (c : Dev nD) : xstg m ρ c = m ((c : Thread nD τ).loc main_arg0) :=
  Memref.read_access_unit_zero (Elt F) main_arg0 (funext fun _ => Nat.zero_mul _) (fun _ => by rw [Nat.zero_mul, Nat.zero_add]) _

/-- The same for the second argument. -/
theorem wstg_eq (c : Dev nD) : wstg m ρ c = m ((c : Thread nD τ).loc main_arg1) :=
  Memref.read_access_unit_zero (Elt F) main_arg1 (funext fun _ => Nat.zero_mul _) (fun _ => by rw [Nat.zero_mul, Nat.zero_add]) _

/-- The result array ends as the body left its staging buffer. -/
theorem finalA_out (c : Dev nD) : finalA m ρ c (2 : Fin 3) = outOf m ρ c := by
  have h : (win0_2.blk (0 : Fin 1)).view.read (Elt F) (finalA m ρ c (2 : Fin 3)) = outOf m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 (funext fun _ => Nat.zero_mul _) (fun _ => by rw [Nat.zero_mul, Nat.zero_add]) _).symm

end Any

section Payloads

/-- A shape of one axis of one place has only axes of size one. -/
theorem size_S1 (b : Fin S1.rank) : S1.size b = 1 := by
  match b with
  | ⟨0, _⟩ => rfl

/-- The tile of a device holds, at every place, the supremum of its clipped product. -/
theorem pay2_apply (x : Vec Ideal S128x4096 .f32) (w : Vec Ideal S4096x2048 .f32) (j : S8x128.Idx) :
    k0_pay2 x w j = ⨆ i : S128x2048.Idx, k0_pay1 x w i := by
  unfold k0_pay2
  generalize k0_pay1 x w = y
  have h (a : S1.Idx) := (Cert.Hand.multiReduction_max_total (shapeCast S1x128x2048 y shapeCasts_S128x2048_S1x128x2048) reduces_S1x128x2048_S1
    size_S1 (.inl rfl) rfl a).trans (Cert.Hand.iSup_shapeCast y shapeCasts_S128x2048_S1x128x2048)
  dsimp only
  rw [funext h]
  rfl

/-- The scale is the supremum of all the tiles over 448. -/
theorem pay3_eq (v : Vec Ideal S32x8x128 .f32) : k0_pay3 v = Ideal.div (⨆ i : S32x8x128.Idx, v i) (Ideal.ofBits .f32 0x43E00000#32) := by
  have h (a : S1.Idx) := (Cert.Hand.multiReduction_max_total (shapeCast S1x32x8x128 v shapeCasts_S32x8x128_S1x32x8x128) reduces_S1x32x8x128_S1
    size_S1 (.inl rfl) rfl a).trans (Cert.Hand.iSup_shapeCast v shapeCasts_S32x8x128_S1x32x8x128)
  unfold k0_pay3
  dsimp only
  rw [funext h]
  rfl

/-- The factor is the reciprocal of the scale, or zero. -/
theorem pay4_eq (v : Vec Ideal S32x8x128 .f32) : k0_pay4 v = Cert.Hand.recip (k0_pay3 v) := by
  unfold k0_pay4 Cert.Hand.recip
  generalize k0_pay3 v = s
  show Scalar.select (Ideal.cmp .ogt s (Ideal.ofBits .f32 0x00000000#32)) (Ideal.div (Ideal.ofBits .f32 0x3F800000#32) s) (Ideal.ofBits .f32 0x00000000#32) = _
  rw [Ideal.ofBits_zero_f32, Ideal.ofBits_one_f32]
  unfold Scalar.select Ideal.cmp
  by_cases h : 0 < s <;> simp [h]

end Payloads

section Extended

variable (m : (ℓ : Loc nD τ sig) → Buf (Elt Ideal) ℓ) (ρ : Dev nD → PrngReg)

/-- Device `c`'s clipped product, entry by entry. -/
theorem yOf_apply (c : Dev nD) (r : Fin 128) (l : Fin 2048) : yOf m ρ c (ix2 r l)
    = Cert.Hand.clipped (m ((c : Thread nD τ).loc main_arg0)) (m ((c : Thread nD τ).loc main_arg1)) r l := by
  unfold yOf
  rw [xstg_eq, wstg_eq]
  pointwise [k0_pay1]
  rfl

/-- The tiles of all devices, as an array of extended reals. -/
def tops : S32x8x128.Idx → EReal := maxima m ρ

/-- The scale: the supremum of all devices' clipped products over 448. -/
theorem scOf_eq : scOf m ρ = Ideal.div (⨆ c : Dev nD, ⨆ i : S128x2048.Idx, yOf m ρ c i) (Ideal.ofBits .f32 0x43E00000#32) := by
  refine (pay3_eq _).trans (congrArg (fun a => Ideal.div a (Ideal.ofBits .f32 0x43E00000#32)) ?_)
  have h : ∀ i : S32x8x128.Idx, tops m ρ i = ⨆ j : S128x2048.Idx, yOf m ρ (i 0) j := fun i => by
    unfold tops maxima maxOf
    rw [pay2_apply]
    rfl
  refine (iSup_congr h).trans ?_
  have hs : Function.Surjective fun i : S32x8x128.Idx => (i 0 : Dev nD) := fun c => ⟨ix3 c 0 0, rfl⟩
  exact hs.iSup_comp (g := fun c : Dev nD => ⨆ j : S128x2048.Idx, yOf m ρ c j)

/-- What device `c` receives, as an array of extended reals, as those below. -/
def received (c : Dev nD) : S32x128x64.Idx → EReal := recvOf m ρ c
/-- The quantised block of device `c`. -/
def quantised (c : Dev nD) : S128x2048.Idx → EReal := yqOf m ρ c
/-- The result of device `c`. -/
def result (c : Dev nD) : S4096x64.Idx → EReal := outOf m ρ c

/-- The quantised block, entry by entry. -/
theorem quantised_apply (j : Dev nD) (i : S128x2048.Idx) : quantised m ρ j i
    = min (yOf m ρ j i * Cert.Hand.recip (scOf m ρ)) (Ideal.ofBits .f32 0x43E00000#32) := by
  unfold quantised yqOf scOf
  rw [← pay4_eq]
  generalize k0_pay4 (maxima m ρ) = v
  generalize yOf m ρ j = y
  rfl

/-- What device `c` receives from device `j` is the slice of `j`'s quantised block cut for `c`. -/
theorem received_apply (c : Dev nD) (j : Fin 32) (r : Fin 128) (l : Fin 64) (k : Fin 2048) (hk : k.val = 64 * c.val + l.val) :
    received m ρ c (ix3 j r l) = quantised m ρ j (ix2 r k) := by
  show payQ (yqOf m ρ j) c (inQ (ix3 j r l)) = yqOf m ρ j (ix2 r k)
  generalize yqOf m ρ j = y
  unfold payQ
  rw [shapeCast_apply _ _ (inQ (ix3 j r l)) (ix2 r l) ?_]
  rotate_left
  · exact (rowMajor_val2 (ix2 r l) 64 rfl).trans ((rowMajor_val3 (inQ (ix3 j r l)) 8192 64 rfl rfl).trans (by
      show 0 * 8192 + r.val * 64 + l.val = r.val * 64 + l.val
      omega)).symm
  refine congrArg y (funext fun a => Fin.ext ?_)
  match a with
  | ⟨0, _⟩ => exact Nat.zero_add _
  | ⟨1, _⟩ => exact hk.symm

/-- The result of device `c` is what it received, its blocks one below the other, times the scale. -/
theorem result_apply (c : Dev nD) (j : Fin 32) (r : Fin 128) (l : Fin 64) (i : Fin 4096) (hi : i.val = j.val * 128 + r.val) :
    result m ρ c (ix2 i l) = received m ρ c (ix3 j r l) * scOf m ρ := by
  unfold result received outOf
  generalize recvOf m ρ c = y
  generalize scOf m ρ = s
  unfold k0_pay42
  refine congrArg (fun a : EReal => a * s) (shapeCast_apply _ _ (ix2 i l) (ix3 j r l) ?_)
  rw [rowMajor_val3 (ix3 j r l) 8192 64 rfl rfl, rowMajor_val2 (ix2 i l) 64 rfl]
  show j.val * 8192 + r.val * 64 + l.val = i.val * 64 + l.val
  omega

end Extended

end Cert.KernelIdeal.Hand

end
-- ==== Proof.RefValue.lean ====
module

public import proofs.«01_k».proof.Proof.Gen.ReferenceIdeal.Value
public import proofs.«01_k».proof.Proof.Math
public import Idealize.ShloMosaic.Lib.StableHlo.Run

/-! # What the reference leaves on the extended reals

The result array entry by entry, as a function of the memory at launch. -/

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem

variable (m : (ℓ : Loc nD τ sig) → Buf (Elt Ideal) ℓ) (c : Dev nD)

/-- The first argument, as an array of extended reals, as those below. -/
def argX : S4096x4096.Idx → EReal := m ((c : Thread nD τ).loc main_arg0)
/-- The second argument. -/
def argW : S4096x2048.Idx → EReal := m ((c : Thread nD τ).loc main_arg1)
/-- The clipped product. -/
def product : S4096x2048.Idx → EReal := V m c main_v2
/-- The scale. -/
def scale : S1x1.Idx → EReal := V m c main_v6
/-- The result. -/
def result : S4096x2048.Idx → EReal := (dats m 0 c).arrAt 2 cfg0.N

/-- The product, clipped below at zero. -/
theorem product_apply (r : Fin 4096) (l : Fin 2048) : product m c (ix2 r l) = Cert.Hand.clipped (argX m c) (argW m c) r l := by
  have h : product m c = maximumf (F := Ideal) (φ := .f32) (Host.dotGeneral (φ₁ := .f32) (φ₂ := .f32) dot_S4096x4096_S4096x2048_S4096x2048_1_0_0_1_n_n none (argX m c : FVec Ideal S4096x4096 .f32) (argW m c : FVec Ideal S4096x2048 .f32))
      (broadcastInDim S4096x2048 ![] bcast_S_S4096x2048 (constant S_ .f32 0x00000000#32)) := by
    unfold product V
    after_results
    rfl
  rw [h]
  generalize argX m c = x
  generalize argW m c = w
  pointwise
  rfl

/-- The scale: the supremum of the absolute values over 448. -/
theorem scale_apply (i : S1x1.Idx) : scale m c i
    = Ideal.div (⨆ i : S4096x2048.Idx, max (product m c i) (-(product m c i))) (Ideal.ofBits .f32 0x43E00000#32) := by
  have h : scale m c = shapeCast S1x1 (Host.divf (F := Ideal) (φ := .f32) (Host.reduce FloatOps.maximumf (Host.absf (product m c : FVec Ideal S4096x2048 .f32)) (constant S_ .f32 0xFF800000#32) reducesTo_S4096x2048_S_d0_1 h_S_)
      (constant S_ .f32 0x43E00000#32)) shapeCasts_S_S1x1 := by
    unfold scale product V
    after_results
    rfl
  rw [h]
  generalize product m c = y
  have hr := Cert.Hand.hostReduce_max_total (Host.absf (y : FVec Ideal S4096x2048 .f32)) (constant S_ .f32 0xFF800000#32) reducesTo_S4096x2048_S_d0_1
    (fun b => b.elim0) h_S_ (fun _ => rfl)
  rw [funext hr]
  rfl

/-- The product's window is its whole array. -/
theorem iblk_product : iblk m c 0 (0 : Fin 1) = product m c :=
  Memref.read_access_unit_zero (Elt Ideal) main_v2 (funext fun _ => Nat.zero_mul _) (fun _ => by rw [Nat.zero_mul, Nat.zero_add]) _
/-- The scale's window is its whole array. -/
theorem iblk_scale : iblk m c 1 (0 : Fin 1) = scale m c :=
  Memref.read_access_unit_zero (Elt Ideal) main_v6 (funext fun _ => Nat.zero_mul _) (fun _ => by rw [Nat.zero_mul, Nat.zero_add]) _

/-- The result is what the body leaves, of the product and the scale. -/
theorem result_eq : result m c = out0_2 (F := Ideal) (product m c) (scale m c) := by
  have h : (win0_2.blk (0 : Fin 1)).view.read (Elt Ideal) (result m c) = out0_2 (F := Ideal) (product m c) (scale m c) := by
    unfold result
    rw [← iblk_product, ← iblk_scale]
    exact (blocks2 m c (0 : Fin 1) (by decide)).trans (flushed2 m c (0 : Fin 1))
  rw [← h]
  exact (Memref.read_access_unit_zero (Elt Ideal) main_v7 (funext fun _ => Nat.zero_mul _) (fun _ => by rw [Nat.zero_mul, Nat.zero_add]) _).symm

/-- The result: the product over the scale, clipped at 448 in absolute value, times the scale. -/
theorem result_apply (i : S4096x2048.Idx) : result m c i
    = min (Ideal.ofBits .f32 0x43E00000#32) (max (Ideal.ofBits .f32 0xC3E00000#32) (Ideal.div (product m c i) (scale m c (ix2 0 0)))) * scale m c (ix2 0 0) := by
  rw [result_eq]
  generalize product m c = y
  generalize scale m c = s
  unfold out0_2
  rw [canon2_eq]
  have e₀ : View.ld (Val := Elt Ideal) (e' := .f32) y r0_1 (ix2_0 i) = y i := congrArg y (funext fun a => Fin.ext (by
    match a with
    | ⟨0, _⟩ => exact (Nat.zero_add _).trans (Nat.one_mul _)
    | ⟨1, _⟩ => exact (Nat.zero_add _).trans (Nat.one_mul _)))
  have e₁ : View.ld (Val := Elt Ideal) (e' := .f32) s r0_0 (ix2_1 i) = s (ix2 0 0) := congrArg s (funext fun a => Fin.ext (by
    match a with
    | ⟨0, _⟩ => rfl
    | ⟨1, _⟩ => rfl))
  unfold E2
  show FloatOps.mulf (F := Ideal) (φ := .f32) _ _ = _
  rw [e₀, e₁]
  rfl

end Cert.ReferenceIdeal.Hand

end
-- ==== Proof.Algebraic.lean ====
module

public import proofs.«01_k».proof.Proof.KernelValue
public import proofs.«01_k».proof.Proof.RefValue
public import proofs.«01_k».proof.Defs

/-! # The kernel's result is the reference's

On the extended reals, the result of every device is its block of columns of the reference's result. -/

@[expose] public section

noncomputable section

namespace Cert.Hand

open Idealize.ShloMosaic Idealize.ShloMosaic.TcCoe

section Blocks

variable (X : (⟨2, ![4096, 4096]⟩ : Shape).Idx → EReal) (W : (⟨2, ![4096, 2048]⟩ : Shape).Idx → EReal)

/-- Row `r` of the rows cut for device `c` is row `128 c + r` of the whole. -/
theorem rows_block (c : Fin 32) (r : Fin 128) (k : Fin 4096) (i : Fin 4096) (hi : i.val = c.val * 128 + r.val) :
    Layout.block ⟨2, ![128, 4096]⟩ ⟨2, ![4096, 4096]⟩ 0 32 c X (by decide) (ix2 r k) = X (ix2 i k) := by
  refine congrArg X (funext fun a => Fin.ext ?_)
  match a with
  | ⟨0, _⟩ => exact hi.symm
  | ⟨1, _⟩ => rfl

/-- So the clipped product of a block of rows is a block of rows of the clipped product. -/
theorem clipped_block (c : Fin 32) (r : Fin 128) (l : Fin 2048) (i : Fin 4096) (hi : i.val = c.val * 128 + r.val) :
    clipped (Layout.block ⟨2, ![128, 4096]⟩ ⟨2, ![4096, 4096]⟩ 0 32 c X) W r l = clipped X W i l := by
  unfold clipped
  rw [Finset.sum_congr rfl fun k _ => congrArg (· * W (ix2 k l)) (rows_block X c r k i hi)]

/-- The supremum of the whole product is that of the devices' suprema. -/
theorem iSup_clipped : ⨆ c : Fin 32, ⨆ i : (⟨2, ![128, 2048]⟩ : Shape).Idx, clipped (Layout.block ⟨2, ![128, 4096]⟩ ⟨2, ![4096, 4096]⟩ 0 32 c X) W (i 0) (i 1)
    = ⨆ i : (⟨2, ![4096, 2048]⟩ : Shape).Idx, clipped X W (i 0) (i 1) := by
  apply le_antisymm
  · refine iSup_le fun c => iSup_le fun i => ?_
    have hlt : c.val * 128 + (i 0).val < 4096 := by
      have := c.isLt; have h : (i 0).val < 128 := (i 0).isLt; omega
    rw [clipped_block X W c (i 0) (i 1) ⟨_, hlt⟩ rfl]
    exact le_iSup (fun i : (⟨2, ![4096, 2048]⟩ : Shape).Idx => clipped X W (i 0) (i 1)) (ix2 ⟨_, hlt⟩ (i 1))
  · refine iSup_le fun i => ?_
    have h : (i 0).val < 4096 := (i 0).isLt
    have e := clipped_block X W ⟨(i 0).val / 128, by omega⟩ ⟨(i 0).val % 128, by omega⟩ (i 1) (i 0) (by
      show (i 0).val = (i 0).val / 128 * 128 + (i 0).val % 128; omega)
    rw [← e]
    exact le_iSup_of_le ⟨(i 0).val / 128, by omega⟩ (le_iSup_of_le (ix2 ⟨(i 0).val % 128, by omega⟩ (i 1)) le_rfl)

end Blocks

section Value

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The reference's product at its every index. -/
theorem product_at (i : (⟨2, ![4096, 2048]⟩ : Shape).Idx) : Cert.ReferenceIdeal.Hand.product m' 0 i
    = clipped (Cert.ReferenceIdeal.Hand.argX m' 0) (Cert.ReferenceIdeal.Hand.argW m' 0) (i 0) (i 1) := by
  obtain ⟨r, l, rfl⟩ : ∃ (r : Fin 4096) (l : Fin 2048), i = ix2 r l := ⟨i 0, i 1, eq_ix2 i⟩
  exact Cert.ReferenceIdeal.Hand.product_apply m' 0 r l

/-- The reference's scale, its absolute values dropped: the product is non-negative. -/
theorem ref_scale : Cert.ReferenceIdeal.Hand.scale m' 0 (ix2 0 0)
    = Ideal.div (⨆ i : (⟨2, ![4096, 2048]⟩ : Shape).Idx, clipped (Cert.ReferenceIdeal.Hand.argX m' 0) (Cert.ReferenceIdeal.Hand.argW m' 0) (i 0) (i 1)) (Ideal.ofBits .f32 0x43E00000#32) := by
  rw [Cert.ReferenceIdeal.Hand.scale_apply]
  refine congrArg (fun a => Ideal.div a (Ideal.ofBits .f32 0x43E00000#32)) (iSup_congr fun i => ?_)
  rw [product_at]
  exact abs_of_nonneg (clipped_nonneg _ _ _ _)

/-- The reference's scale is non-negative. -/
theorem ref_scale_nonneg : 0 ≤ Cert.ReferenceIdeal.Hand.scale m' 0 (ix2 0 0) := by
  rw [ref_scale]
  exact scale_nonneg ((clipped_nonneg _ _ _ _).trans (le_iSup (fun i : (⟨2, ![4096, 2048]⟩ : Shape).Idx =>
    clipped (Cert.ReferenceIdeal.Hand.argX m' 0) (Cert.ReferenceIdeal.Hand.argW m' 0) (i 0) (i 1)) (ix2 0 0)))

variable (hx : ∀ c : Dev Cert.KernelIdeal.nD, m ((c : Thread Cert.KernelIdeal.nD Cert.KernelIdeal.τ).loc Cert.KernelIdeal.main_arg0)
  = Layout.block ⟨2, ![128, 4096]⟩ ⟨2, ![4096, 4096]⟩ 0 32 c (Cert.ReferenceIdeal.Hand.argX m' 0))
variable (hw : ∀ c : Dev Cert.KernelIdeal.nD, m ((c : Thread Cert.KernelIdeal.nD Cert.KernelIdeal.τ).loc Cert.KernelIdeal.main_arg1)
  = Cert.ReferenceIdeal.Hand.argW m' 0)

include hx hw

/-- Device `c`'s product is that of its block of rows. -/
theorem yOf_at (c : Dev Cert.KernelIdeal.nD) (r : Fin 128) (l : Fin 2048) : Cert.KernelIdeal.Hand.yOf m ρ c (ix2 r l)
    = clipped (Layout.block ⟨2, ![128, 4096]⟩ ⟨2, ![4096, 4096]⟩ 0 32 c (Cert.ReferenceIdeal.Hand.argX m' 0)) (Cert.ReferenceIdeal.Hand.argW m' 0) r l := by
  rw [Cert.KernelIdeal.Hand.yOf_apply, hx, hw]

/-- The kernel's scale is the reference's. -/
theorem scale_eq : Cert.KernelIdeal.Hand.scOf m ρ = Cert.ReferenceIdeal.Hand.scale m' 0 (ix2 0 0) := by
  rw [ref_scale, ← iSup_clipped, Cert.KernelIdeal.Hand.scOf_eq]
  refine congrArg (fun a => Ideal.div a (Ideal.ofBits .f32 0x43E00000#32)) (iSup_congr fun c => iSup_congr fun i => ?_)
  obtain ⟨r, l, rfl⟩ : ∃ (r : Fin 128) (l : Fin 2048), i = ix2 r l := ⟨i 0, i 1, eq_ix2 i⟩
  exact yOf_at m ρ m' hx hw c r l

/-- The result of device `c`, entry by entry, in the reference's product and scale: row `i` lies in the rows of device `j`. -/
theorem kernel_at (c : Dev Cert.KernelIdeal.nD) (j : Fin 32) (r : Fin 128) (l : Fin 64) (i : Fin 4096) (hi : i.val = j.val * 128 + r.val)
    (k : Fin 2048) (hk : k.val = 64 * c.val + l.val) : Cert.KernelIdeal.Hand.result m ρ c (ix2 i l)
    = min (clipped (Cert.ReferenceIdeal.Hand.argX m' 0) (Cert.ReferenceIdeal.Hand.argW m' 0) i k * recip (Cert.ReferenceIdeal.Hand.scale m' 0 (ix2 0 0)))
        (Ideal.ofBits .f32 0x43E00000#32) * Cert.ReferenceIdeal.Hand.scale m' 0 (ix2 0 0) := by
  rw [← clipped_block _ _ j r k i hi, ← yOf_at m ρ m' hx hw j r k, ← scale_eq m ρ m' hx hw,
    ← Cert.KernelIdeal.Hand.quantised_apply m ρ j (ix2 r k), ← Cert.KernelIdeal.Hand.received_apply m ρ c j r l k hk]
  exact Cert.KernelIdeal.Hand.result_apply m ρ c j r l i hi

/-- That is the reference's result. -/
theorem result_at (c : Dev Cert.KernelIdeal.nD) (i : Fin 4096) (l : Fin 64) (k : Fin 2048) (hk : k.val = 64 * c.val + l.val) :
    Cert.KernelIdeal.Hand.result m ρ c (ix2 i l) = Cert.ReferenceIdeal.Hand.result m' 0 (ix2 i k) := by
  have hi : i.val = i.val / 128 * 128 + i.val % 128 := by omega
  have e := (Cert.ReferenceIdeal.Hand.result_apply m' 0 (ix2 i k))
  rw [Cert.ReferenceIdeal.Hand.product_apply] at e
  exact (kernel_at m ρ m' hx hw c ⟨i.val / 128, by omega⟩ ⟨i.val % 128, by omega⟩ l i hi k hk).trans
    ((quant_eq (clipped_nonneg _ _ _ _) (ref_scale_nonneg m')).trans e.symm)

/-- The result of device `c` is its block of columns of the reference's result. -/
theorem result_block (c : Dev Cert.KernelIdeal.nD) : Cert.KernelIdeal.Hand.result m ρ c
    = Layout.block ⟨2, ![4096, 64]⟩ ⟨2, ![4096, 2048]⟩ 1 32 c (Cert.ReferenceIdeal.Hand.result m' 0) := by
  funext a
  obtain ⟨i, l, rfl⟩ : ∃ (i : Fin 4096) (l : Fin 64), a = ix2 i l := ⟨a 0, a 1, eq_ix2 a⟩
  have hc : c.val < 32 := c.isLt
  have hk : c.val * 64 + l.val < 2048 := by omega
  refine (result_at m ρ m' hx hw c i l ⟨c.val * 64 + l.val, hk⟩ (by show c.val * 64 + l.val = 64 * c.val + l.val; omega)).trans ?_
  refine congrArg (Cert.ReferenceIdeal.Hand.result m' 0) (funext fun a => Fin.ext ?_)
  match a with
  | ⟨0, _⟩ => rfl
  | ⟨1, _⟩ => rfl

end Value

/-- The algebraic claim: from memories that hold the same arrays, the kernel's and the reference's, both run, keep their
    arguments, and every device ends with its block of columns of the reference's result. -/
theorem algebraic : @Cert.algebraic_KernelIdeal_ReferenceIdeal Cert.KernelIdeal.Gen.facts Cert.ReferenceIdeal.Gen.facts := by
  intro m g m' g' _ hagree
  refine ⟨Cert.ReferenceIdeal.Hand.result m' 0, ?_, ?_⟩
  · refine (θ_run _ _ _).mono (fun r h c => ⟨(h.1 c).2.2.trans ?_, (h.1 c).1, (h.1 c).2.1⟩) (Cert.KernelIdeal.Hand.run_main (F := Ideal) m g)
    rw [Cert.KernelIdeal.Hand.finalA_out]
    exact result_block m g m' (fun c => (hagree c).1) (fun c => (hagree c).2) c
  · exact (θ_run _ _ _).mono (fun r h => h 0) (Cert.ReferenceIdeal.Value.run_blocks (F := Ideal) m' g')

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Hand.frame_kernel, Cert.Hand.frame_ideal, Cert.Hand.frame_reference, trivial, Cert.Hand.algebraic⟩

end Cert.Proof

end
